-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S_ : Shape := ⟨0, ![]⟩
abbrev S2x128x4x64 : Shape := ⟨4, ![2, 128, 4, 64]⟩
abbrev S2x4x128x64 : Shape := ⟨4, ![2, 4, 128, 64]⟩
abbrev S8x128x64 : Shape := ⟨3, ![8, 128, 64]⟩
abbrev S8x32x512 : Shape := ⟨3, ![8, 32, 512]⟩
abbrev S8 : Shape := ⟨1, ![8]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x64 : Shape := ⟨3, ![1, 128, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x32x512 : Shape := ⟨3, ![1, 32, 512]⟩
abbrev S32x512 : Shape := ⟨2, ![32, 512]⟩

abbrev nBuf : Space → Nat
  | .hbm => 38
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x32x64, .f32⟩
  | .hbm, ⟨3, _⟩ => ⟨S2x128x32x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x4x64, .f32⟩
  | .hbm, ⟨33, _⟩ => ⟨S2x4x128x64, .f32⟩
  | .hbm, ⟨34, _⟩ => ⟨S8x128x64, .f32⟩
  | .hbm, ⟨35, _⟩ => ⟨S2x4x128x64, .f32⟩
  | .hbm, ⟨36, _⟩ => ⟨S8x128x64, .f32⟩
  | .hbm, ⟨37, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S8x128x64, .f32⟩
  | .local _ .vmem, ⟨3, _⟩ => ⟨S8x128x64, .f32⟩
  | .local _ .vmem, ⟨4, _⟩ => ⟨S256x512, .f32⟩
  | .local _ .vmem, ⟨5, _⟩ => ⟨S2x128x512, .f32⟩
  | .local _ .vmem, ⟨6, _⟩ => ⟨S256x512, .f32⟩
  | .local _ .vmem, ⟨7, _⟩ => ⟨S8x32x512, .f32⟩
  | .local _ .vmem, ⟨8, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_159 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v257 : BitVec 32 := Scalar.addi v2 c1_i32_159
  let c8_i32_160 : BitVec 32 := 8#32
  let c0_i32_161 : BitVec 32 := 0#32
  let v258 : BitVec 1 := Scalar.cmpi .eq c8_i32_160 c0_i32_161
  let c1_i32_162 : BitVec 32 := 1#32
  let v259 : BitVec 32 := Scalar.select v258 c1_i32_162 c8_i32_160
  let v260 : BitVec 32 := Scalar.remsi v257 v259
  let c0_i32_164 : BitVec 32 := 0#32
  let v262 : BitVec 1 := Scalar.cmpi .slt v260 c0_i32_164
  let c0_i32_165 : BitVec 32 := 0#32
  let v263 : BitVec 1 := Scalar.cmpi .slt v259 c0_i32_165
  let v264 : BitVec 1 := Scalar.xori v262 v263
  let c0_i32_163 : BitVec 32 := 0#32
  let v261 : BitVec 1 := Scalar.cmpi .ne v260 c0_i32_163
  let v265 : BitVec 1 := Scalar.andi v264 v261
  let v266 : BitVec 32 := Scalar.addi v260 v259
  let v267 : BitVec 32 := Scalar.select v265 v266 v260
  let c32_i32 : BitVec 32 := 32#32
  let v268 : BitVec 32 := Scalar.muli v267 c32_i32
  let c0_i32_173 : BitVec 32 := 0#32
  ![v268.toNat, 0]
def k0_dev8 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_159 : BitVec 32 := 1#32
  let v257 : BitVec 32 := Scalar.addi v2 c1_i32_159
  let c8_i32_160 : BitVec 32 := 8#32
  let c0_i32_161 : BitVec 32 := 0#32
  let v258 : BitVec 1 := Scalar.cmpi .eq c8_i32_160 c0_i32_161
  let c1_i32_162 : BitVec 32 := 1#32
  let v259 : BitVec 32 := Scalar.select v258 c1_i32_162 c8_i32_160
  let v260 : BitVec 32 := Scalar.remsi v257 v259
  let c0_i32_164 : BitVec 32 := 0#32
  let v262 : BitVec 1 := Scalar.cmpi .slt v260 c0_i32_164
  let c0_i32_165 : BitVec 32 := 0#32
  let v263 : BitVec 1 := Scalar.cmpi .slt v259 c0_i32_165
  let v264 : BitVec 1 := Scalar.xori v262 v263
  let c0_i32_163 : BitVec 32 := 0#32
  let v261 : BitVec 1 := Scalar.cmpi .ne v260 c0_i32_163
  let v265 : BitVec 1 := Scalar.andi v264 v261
  let v266 : BitVec 32 := Scalar.addi v260 v259
  let v267 : BitVec 32 := Scalar.select v265 v266 v260
  let c1_i32_169 : BitVec 32 := 1#32
  let v269 : BitVec 32 := Scalar.muli v267 c1_i32_169
  let v270 : BitVec 32 := Scalar.addi c0_i32_170 v269
  v270.toNat
def k0_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_174 : BitVec 32 := 2#32
  let v278 : BitVec 32 := Scalar.addi v2 c2_i32_174
  let c8_i32_175 : BitVec 32 := 8#32
  let c0_i32_176 : BitVec 32 := 0#32
  let v279 : BitVec 1 := Scalar.cmpi .eq c8_i32_175 c0_i32_176
  let c1_i32_177 : BitVec 32 := 1#32
  let v280 : BitVec 32 := Scalar.select v279 c1_i32_177 c8_i32_175
  let v281 : BitVec 32 := Scalar.remsi v278 v280
  let c0_i32_179 : BitVec 32 := 0#32
  let v283 : BitVec 1 := Scalar.cmpi .slt v281 c0_i32_179
  let c0_i32_180 : BitVec 32 := 0#32
  let v284 : BitVec 1 := Scalar.cmpi .slt v280 c0_i32_180
  let v285 : BitVec 1 := Scalar.xori v283 v284
  let c0_i32_178 : BitVec 32 := 0#32
  let v282 : BitVec 1 := Scalar.cmpi .ne v281 c0_i32_178
  let v286 : BitVec 1 := Scalar.andi v285 v282
  let v287 : BitVec 32 := Scalar.addi v281 v280
  let v288 : BitVec 32 := Scalar.select v286 v287 v281
  let c1_i32_185 : BitVec 32 := 1#32
  let v290 : BitVec 32 := Scalar.muli v288 c1_i32_185
  let v291 : BitVec 32 := Scalar.addi c0_i32_186 v290
  v291.toNat
def k0_dev10 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_190 : BitVec 32 := 3#32
  let v299 : BitVec 32 := Scalar.addi v2 c3_i32_190
  let c8_i32_191 : BitVec 32 := 8#32
  let c0_i32_192 : BitVec 32 := 0#32
  let v300 : BitVec 1 := Scalar.cmpi .eq c8_i32_191 c0_i32_192
  let c1_i32_193 : BitVec 32 := 1#32
  let v301 : BitVec 32 := Scalar.select v300 c1_i32_193 c8_i32_191
  let v302 : BitVec 32 := Scalar.remsi v299 v301
  let c0_i32_195 : BitVec 32 := 0#32
  let v304 : BitVec 1 := Scalar.cmpi .slt v302 c0_i32_195
  let c0_i32_196 : BitVec 32 := 0#32
  let v305 : BitVec 1 := Scalar.cmpi .slt v301 c0_i32_196
  let v306 : BitVec 1 := Scalar.xori v304 v305
  let c0_i32_194 : BitVec 32 := 0#32
  let v303 : BitVec 1 := Scalar.cmpi .ne v302 c0_i32_194
  let v307 : BitVec 1 := Scalar.andi v306 v303
  let v308 : BitVec 32 := Scalar.addi v302 v301
  let v309 : BitVec 32 := Scalar.select v307 v308 v302
  let c1_i32_201 : BitVec 32 := 1#32
  let v311 : BitVec 32 := Scalar.muli v309 c1_i32_201
  let v312 : BitVec 32 := Scalar.addi c0_i32_202 v311
  v312.toNat
def k0_dev11 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_206 : BitVec 32 := 4#32
  let v320 : BitVec 32 := Scalar.addi v2 c4_i32_206
  let c8_i32_207 : BitVec 32 := 8#32
  let c0_i32_208 : BitVec 32 := 0#32
  let v321 : BitVec 1 := Scalar.cmpi .eq c8_i32_207 c0_i32_208
  let c1_i32_209 : BitVec 32 := 1#32
  let v322 : BitVec 32 := Scalar.select v321 c1_i32_209 c8_i32_207
  let v323 : BitVec 32 := Scalar.remsi v320 v322
  let c0_i32_211 : BitVec 32 := 0#32
  let v325 : BitVec 1 := Scalar.cmpi .slt v323 c0_i32_211
  let c0_i32_212 : BitVec 32 := 0#32
  let v326 : BitVec 1 := Scalar.cmpi .slt v322 c0_i32_212
  let v327 : BitVec 1 := Scalar.xori v325 v326
  let c0_i32_210 : BitVec 32 := 0#32
  let v324 : BitVec 1 := Scalar.cmpi .ne v323 c0_i32_210
  let v328 : BitVec 1 := Scalar.andi v327 v324
  let v329 : BitVec 32 := Scalar.addi v323 v322
  let v330 : BitVec 32 := Scalar.select v328 v329 v323
  let c1_i32_217 : BitVec 32 := 1#32
  let v332 : BitVec 32 := Scalar.muli v330 c1_i32_217
  let v333 : BitVec 32 := Scalar.addi c0_i32_218 v332
  v333.toNat
def k0_dev12 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_222 : BitVec 32 := 5#32
  let v341 : BitVec 32 := Scalar.addi v2 c5_i32_222
  let c8_i32_223 : BitVec 32 := 8#32
  let c0_i32_224 : BitVec 32 := 0#32
  let v342 : BitVec 1 := Scalar.cmpi .eq c8_i32_223 c0_i32_224
  let c1_i32_225 : BitVec 32 := 1#32
  let v343 : BitVec 32 := Scalar.select v342 c1_i32_225 c8_i32_223
  let v344 : BitVec 32 := Scalar.remsi v341 v343
  let c0_i32_227 : BitVec 32 := 0#32
  let v346 : BitVec 1 := Scalar.cmpi .slt v344 c0_i32_227
  let c0_i32_228 : BitVec 32 := 0#32
  let v347 : BitVec 1 := Scalar.cmpi .slt v343 c0_i32_228
  let v348 : BitVec 1 := Scalar.xori v346 v347
  let c0_i32_226 : BitVec 32 := 0#32
  let v345 : BitVec 1 := Scalar.cmpi .ne v344 c0_i32_226
  let v349 : BitVec 1 := Scalar.andi v348 v345
  let v350 : BitVec 32 := Scalar.addi v344 v343
  let v351 : BitVec 32 := Scalar.select v349 v350 v344
  let c1_i32_233 : BitVec 32 := 1#32
  let v353 : BitVec 32 := Scalar.muli v351 c1_i32_233
  let v354 : BitVec 32 := Scalar.addi c0_i32_234 v353
  v354.toNat
def k0_dev13 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_238 : BitVec 32 := 6#32
  let v362 : BitVec 32 := Scalar.addi v2 c6_i32_238
  let c8_i32_239 : BitVec 32 := 8#32
  let c0_i32_240 : BitVec 32 := 0#32
  let v363 : BitVec 1 := Scalar.cmpi .eq c8_i32_239 c0_i32_240
  let c1_i32_241 : BitVec 32 := 1#32
  let v364 : BitVec 32 := Scalar.select v363 c1_i32_241 c8_i32_239
  let v365 : BitVec 32 := Scalar.remsi v362 v364
  let c0_i32_243 : BitVec 32 := 0#32
  let v367 : BitVec 1 := Scalar.cmpi .slt v365 c0_i32_243
  let c0_i32_244 : BitVec 32 := 0#32
  let v368 : BitVec 1 := Scalar.cmpi .slt v364 c0_i32_244
  let v369 : BitVec 1 := Scalar.xori v367 v368
  let c0_i32_242 : BitVec 32 := 0#32
  let v366 : BitVec 1 := Scalar.cmpi .ne v365 c0_i32_242
  let v370 : BitVec 1 := Scalar.andi v369 v366
  let v371 : BitVec 32 := Scalar.addi v365 v364
  let v372 : BitVec 32 := Scalar.select v370 v371 v365
  let c1_i32_249 : BitVec 32 := 1#32
  let v374 : BitVec 32 := Scalar.muli v372 c1_i32_249
  let v375 : BitVec 32 := Scalar.addi c0_i32_250 v374
  v375.toNat
def k0_dev14 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_254 : BitVec 32 := 7#32
  let v383 : BitVec 32 := Scalar.addi v2 c7_i32_254
  let c8_i32_255 : BitVec 32 := 8#32
  let c0_i32_256 : BitVec 32 := 0#32
  let v384 : BitVec 1 := Scalar.cmpi .eq c8_i32_255 c0_i32_256
  let c1_i32_257 : BitVec 32 := 1#32
  let v385 : BitVec 32 := Scalar.select v384 c1_i32_257 c8_i32_255
  let v386 : BitVec 32 := Scalar.remsi v383 v385
  let c0_i32_259 : BitVec 32 := 0#32
  let v388 : BitVec 1 := Scalar.cmpi .slt v386 c0_i32_259
  let c0_i32_260 : BitVec 32 := 0#32
  let v389 : BitVec 1 := Scalar.cmpi .slt v385 c0_i32_260
  let v390 : BitVec 1 := Scalar.xori v388 v389
  let c0_i32_258 : BitVec 32 := 0#32
  let v387 : BitVec 1 := Scalar.cmpi .ne v386 c0_i32_258
  let v391 : BitVec 1 := Scalar.andi v390 v387
  let v392 : BitVec 32 := Scalar.addi v386 v385
  let v393 : BitVec 32 := Scalar.select v391 v392 v386
  let c1_i32_265 : BitVec 32 := 1#32
  let v395 : BitVec 32 := Scalar.muli v393 c1_i32_265
  let v396 : BitVec 32 := Scalar.addi c0_i32_266 v395
  v396.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_270 : BitVec 32 := 32#32
  let v404 : BitVec 32 := Scalar.muli v2 c32_i32_270
  let v405 : Index := Scalar.indexCast v404
  let c0_271 : Index := 0#32
  ![v405.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_359 : BitVec 32 := 32#32
  let v494 : BitVec 32 := Scalar.muli v2 c32_i32_359
  let c0_i32_364 : BitVec 32 := 0#32
  ![v494.toNat, 0]
def k0_dev15 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_351 : BitVec 32 := 1#32
  let v482 : BitVec 32 := Scalar.addi v2 c1_i32_351
  let c8_i32_352 : BitVec 32 := 8#32
  let c0_i32_353 : BitVec 32 := 0#32
  let v483 : BitVec 1 := Scalar.cmpi .eq c8_i32_352 c0_i32_353
  let c1_i32_354 : BitVec 32 := 1#32
  let v484 : BitVec 32 := Scalar.select v483 c1_i32_354 c8_i32_352
  let v485 : BitVec 32 := Scalar.remsi v482 v484
  let c0_i32_356 : BitVec 32 := 0#32
  let v487 : BitVec 1 := Scalar.cmpi .slt v485 c0_i32_356
  let c0_i32_357 : BitVec 32 := 0#32
  let v488 : BitVec 1 := Scalar.cmpi .slt v484 c0_i32_357
  let v489 : BitVec 1 := Scalar.xori v487 v488
  let c0_i32_355 : BitVec 32 := 0#32
  let v486 : BitVec 1 := Scalar.cmpi .ne v485 c0_i32_355
  let v490 : BitVec 1 := Scalar.andi v489 v486
  let v491 : BitVec 32 := Scalar.addi v485 v484
  let v492 : BitVec 32 := Scalar.select v490 v491 v485
  let c1_i32_362 : BitVec 32 := 1#32
  let v495 : BitVec 32 := Scalar.muli v492 c1_i32_362
  let v496 : BitVec 32 := Scalar.addi c0_i32_363 v495
  v496.toNat
def k0_dev16 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_366 : BitVec 32 := 2#32
  let v503 : BitVec 32 := Scalar.addi v2 c2_i32_366
  let c8_i32_367 : BitVec 32 := 8#32
  let c0_i32_368 : BitVec 32 := 0#32
  let v504 : BitVec 1 := Scalar.cmpi .eq c8_i32_367 c0_i32_368
  let c1_i32_369 : BitVec 32 := 1#32
  let v505 : BitVec 32 := Scalar.select v504 c1_i32_369 c8_i32_367
  let v506 : BitVec 32 := Scalar.remsi v503 v505
  let c0_i32_371 : BitVec 32 := 0#32
  let v508 : BitVec 1 := Scalar.cmpi .slt v506 c0_i32_371
  let c0_i32_372 : BitVec 32 := 0#32
  let v509 : BitVec 1 := Scalar.cmpi .slt v505 c0_i32_372
  let v510 : BitVec 1 := Scalar.xori v508 v509
  let c0_i32_370 : BitVec 32 := 0#32
  let v507 : BitVec 1 := Scalar.cmpi .ne v506 c0_i32_370
  let v511 : BitVec 1 := Scalar.andi v510 v507
  let v512 : BitVec 32 := Scalar.addi v506 v505
  let v513 : BitVec 32 := Scalar.select v511 v512 v506
  let c1_i32_377 : BitVec 32 := 1#32
  let v516 : BitVec 32 := Scalar.muli v513 c1_i32_377
  let v517 : BitVec 32 := Scalar.addi c0_i32_378 v516
  v517.toNat
def k0_dev17 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_381 : BitVec 32 := 3#32
  let v524 : BitVec 32 := Scalar.addi v2 c3_i32_381
  let c8_i32_382 : BitVec 32 := 8#32
  let c0_i32_383 : BitVec 32 := 0#32
  let v525 : BitVec 1 := Scalar.cmpi .eq c8_i32_382 c0_i32_383
  let c1_i32_384 : BitVec 32 := 1#32
  let v526 : BitVec 32 := Scalar.select v525 c1_i32_384 c8_i32_382
  let v527 : BitVec 32 := Scalar.remsi v524 v526
  let c0_i32_386 : BitVec 32 := 0#32
  let v529 : BitVec 1 := Scalar.cmpi .slt v527 c0_i32_386
  let c0_i32_387 : BitVec 32 := 0#32
  let v530 : BitVec 1 := Scalar.cmpi .slt v526 c0_i32_387
  let v531 : BitVec 1 := Scalar.xori v529 v530
  let c0_i32_385 : BitVec 32 := 0#32
  let v528 : BitVec 1 := Scalar.cmpi .ne v527 c0_i32_385
  let v532 : BitVec 1 := Scalar.andi v531 v528
  let v533 : BitVec 32 := Scalar.addi v527 v526
  let v534 : BitVec 32 := Scalar.select v532 v533 v527
  let c1_i32_392 : BitVec 32 := 1#32
  let v537 : BitVec 32 := Scalar.muli v534 c1_i32_392
  let v538 : BitVec 32 := Scalar.addi c0_i32_393 v537
  v538.toNat
def k0_dev18 (d0 : Dev nD) : Nat :=
  let c0_i32_408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_396 : BitVec 32 := 4#32
  let v545 : BitVec 32 := Scalar.addi v2 c4_i32_396
  let c8_i32_397 : BitVec 32 := 8#32
  let c0_i32_398 : BitVec 32 := 0#32
  let v546 : BitVec 1 := Scalar.cmpi .eq c8_i32_397 c0_i32_398
  let c1_i32_399 : BitVec 32 := 1#32
  let v547 : BitVec 32 := Scalar.select v546 c1_i32_399 c8_i32_397
  let v548 : BitVec 32 := Scalar.remsi v545 v547
  let c0_i32_401 : BitVec 32 := 0#32
  let v550 : BitVec 1 := Scalar.cmpi .slt v548 c0_i32_401
  let c0_i32_402 : BitVec 32 := 0#32
  let v551 : BitVec 1 := Scalar.cmpi .slt v547 c0_i32_402
  let v552 : BitVec 1 := Scalar.xori v550 v551
  let c0_i32_400 : BitVec 32 := 0#32
  let v549 : BitVec 1 := Scalar.cmpi .ne v548 c0_i32_400
  let v553 : BitVec 1 := Scalar.andi v552 v549
  let v554 : BitVec 32 := Scalar.addi v548 v547
  let v555 : BitVec 32 := Scalar.select v553 v554 v548
  let c1_i32_407 : BitVec 32 := 1#32
  let v558 : BitVec 32 := Scalar.muli v555 c1_i32_407
  let v559 : BitVec 32 := Scalar.addi c0_i32_408 v558
  v559.toNat
def k0_dev19 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_411 : BitVec 32 := 5#32
  let v566 : BitVec 32 := Scalar.addi v2 c5_i32_411
  let c8_i32_412 : BitVec 32 := 8#32
  let c0_i32_413 : BitVec 32 := 0#32
  let v567 : BitVec 1 := Scalar.cmpi .eq c8_i32_412 c0_i32_413
  let c1_i32_414 : BitVec 32 := 1#32
  let v568 : BitVec 32 := Scalar.select v567 c1_i32_414 c8_i32_412
  let v569 : BitVec 32 := Scalar.remsi v566 v568
  let c0_i32_416 : BitVec 32 := 0#32
  let v571 : BitVec 1 := Scalar.cmpi .slt v569 c0_i32_416
  let c0_i32_417 : BitVec 32 := 0#32
  let v572 : BitVec 1 := Scalar.cmpi .slt v568 c0_i32_417
  let v573 : BitVec 1 := Scalar.xori v571 v572
  let c0_i32_415 : BitVec 32 := 0#32
  let v570 : BitVec 1 := Scalar.cmpi .ne v569 c0_i32_415
  let v574 : BitVec 1 := Scalar.andi v573 v570
  let v575 : BitVec 32 := Scalar.addi v569 v568
  let v576 : BitVec 32 := Scalar.select v574 v575 v569
  let c1_i32_422 : BitVec 32 := 1#32
  let v579 : BitVec 32 := Scalar.muli v576 c1_i32_422
  let v580 : BitVec 32 := Scalar.addi c0_i32_423 v579
  v580.toNat
def k0_dev20 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_426 : BitVec 32 := 6#32
  let v587 : BitVec 32 := Scalar.addi v2 c6_i32_426
  let c8_i32_427 : BitVec 32 := 8#32
  let c0_i32_428 : BitVec 32 := 0#32
  let v588 : BitVec 1 := Scalar.cmpi .eq c8_i32_427 c0_i32_428
  let c1_i32_429 : BitVec 32 := 1#32
  let v589 : BitVec 32 := Scalar.select v588 c1_i32_429 c8_i32_427
  let v590 : BitVec 32 := Scalar.remsi v587 v589
  let c0_i32_431 : BitVec 32 := 0#32
  let v592 : BitVec 1 := Scalar.cmpi .slt v590 c0_i32_431
  let c0_i32_432 : BitVec 32 := 0#32
  let v593 : BitVec 1 := Scalar.cmpi .slt v589 c0_i32_432
  let v594 : BitVec 1 := Scalar.xori v592 v593
  let c0_i32_430 : BitVec 32 := 0#32
  let v591 : BitVec 1 := Scalar.cmpi .ne v590 c0_i32_430
  let v595 : BitVec 1 := Scalar.andi v594 v591
  let v596 : BitVec 32 := Scalar.addi v590 v589
  let v597 : BitVec 32 := Scalar.select v595 v596 v590
  let c1_i32_437 : BitVec 32 := 1#32
  let v600 : BitVec 32 := Scalar.muli v597 c1_i32_437
  let v601 : BitVec 32 := Scalar.addi c0_i32_438 v600
  v601.toNat
def k0_dev21 (d0 : Dev nD) : Nat :=
  let c0_i32_453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_441 : BitVec 32 := 7#32
  let v608 : BitVec 32 := Scalar.addi v2 c7_i32_441
  let c8_i32_442 : BitVec 32 := 8#32
  let c0_i32_443 : BitVec 32 := 0#32
  let v609 : BitVec 1 := Scalar.cmpi .eq c8_i32_442 c0_i32_443
  let c1_i32_444 : BitVec 32 := 1#32
  let v610 : BitVec 32 := Scalar.select v609 c1_i32_444 c8_i32_442
  let v611 : BitVec 32 := Scalar.remsi v608 v610
  let c0_i32_446 : BitVec 32 := 0#32
  let v613 : BitVec 1 := Scalar.cmpi .slt v611 c0_i32_446
  let c0_i32_447 : BitVec 32 := 0#32
  let v614 : BitVec 1 := Scalar.cmpi .slt v610 c0_i32_447
  let v615 : BitVec 1 := Scalar.xori v613 v614
  let c0_i32_445 : BitVec 32 := 0#32
  let v612 : BitVec 1 := Scalar.cmpi .ne v611 c0_i32_445
  let v616 : BitVec 1 := Scalar.andi v615 v612
  let v617 : BitVec 32 := Scalar.addi v611 v610
  let v618 : BitVec 32 := Scalar.select v616 v617 v611
  let c1_i32_452 : BitVec 32 := 1#32
  let v621 : BitVec 32 := Scalar.muli v618 c1_i32_452
  let v622 : BitVec 32 := Scalar.addi c0_i32_453 v621
  v622.toNat
def k0_off4 (d0 : Dev nD) (c1_i32_456 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v629 : BitVec 32 := Scalar.subi v2 c1_i32_456
  let c8_i32_457 : BitVec 32 := 8#32
  let c0_i32_458 : BitVec 32 := 0#32
  let v630 : BitVec 1 := Scalar.cmpi .eq c8_i32_457 c0_i32_458
  let c1_i32_459 : BitVec 32 := 1#32
  let v631 : BitVec 32 := Scalar.select v630 c1_i32_459 c8_i32_457
  let v632 : BitVec 32 := Scalar.remsi v629 v631
  let c0_i32_461 : BitVec 32 := 0#32
  let v634 : BitVec 1 := Scalar.cmpi .slt v632 c0_i32_461
  let c0_i32_462 : BitVec 32 := 0#32
  let v635 : BitVec 1 := Scalar.cmpi .slt v631 c0_i32_462
  let v636 : BitVec 1 := Scalar.xori v634 v635
  let c0_i32_460 : BitVec 32 := 0#32
  let v633 : BitVec 1 := Scalar.cmpi .ne v632 c0_i32_460
  let v637 : BitVec 1 := Scalar.andi v636 v633
  let v638 : BitVec 32 := Scalar.addi v632 v631
  let v639 : BitVec 32 := Scalar.select v637 v638 v632
  let c32_i32_464 : BitVec 32 := 32#32
  let v641 : BitVec 32 := Scalar.muli v639 c32_i32_464
  let c0_i32_476 : BitVec 32 := 0#32
  ![v641.toNat, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x32x128x128 : Shape := ⟨4, ![2, 32, 128, 128]⟩
abbrev S1x1x128x128 : Shape := ⟨4, ![1, 1, 128, 128]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S2x128x32x64, .f32⟩
  | .hbm, ⟨3, _⟩ => ⟨S2x128x32x64, .f32⟩
  | .hbm, ⟨4, _⟩ => ⟨S2048x512, .f32⟩
  | .hbm, ⟨5, _⟩ => ⟨S2x128x2048, .f32⟩
  | .hbm, ⟨6, _⟩ => ⟨S2x128x32x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S2x32x128x128, .f32⟩
  | .hbm, ⟨19, _⟩ => ⟨S_, .f32⟩
  | .hbm, ⟨20, _⟩ => ⟨S2x32x128x128, .f32⟩
  | .hbm, ⟨21, _⟩ => ⟨S2x32x128x128, .f32⟩
  | .hbm, ⟨22, _⟩ => ⟨S1x1x128x128, .i1⟩
  | .hbm, ⟨23, _⟩ => ⟨S_, .f32⟩
  | .hbm, ⟨24, _⟩ => ⟨S_, .f32⟩
  | .hbm, ⟨25, _⟩ => ⟨S2x32x128x128, .i1⟩
  | .hbm, ⟨26, _⟩ => ⟨S2x32x128x128, .f32⟩
  | .hbm, ⟨27, _⟩ => ⟨S2x32x128x128, .f32⟩
  | .hbm, ⟨28, _⟩ => ⟨S_, .f32⟩
  | .hbm, ⟨29, _⟩ => ⟨S2x32x128, .f32⟩
  | .hbm, ⟨30, _⟩ => ⟨S2x32x128x1, .f32⟩
  | .hbm, ⟨31, _⟩ => ⟨S2x32x128x128, .f32⟩
  | .hbm, ⟨32, _⟩ => ⟨S2x32x128x128, .f32⟩
  | .hbm, ⟨33, _⟩ => ⟨S2x32x128x128, .f32⟩
  | .hbm, ⟨34, _⟩ => ⟨S_, .i1⟩
  | .hbm, ⟨35, _⟩ => ⟨S128, .i1⟩
  | .hbm, ⟨36, _⟩ => ⟨S1x1x128x1, .i1⟩
  | .hbm, ⟨37, _⟩ => ⟨S_, .f32⟩
  | .hbm, ⟨38, _⟩ => ⟨S2x32x128, .f32⟩
  | .hbm, ⟨39, _⟩ => ⟨S2x32x128x1, .f32⟩
  | .hbm, ⟨40, _⟩ => ⟨S_, .f32⟩
  | .hbm, ⟨41, _⟩ => ⟨S_, .f32⟩
  | .hbm, ⟨42, _⟩ => ⟨S2x32x128x1, .i1⟩
  | .hbm, ⟨43, _⟩ => ⟨S2x32x128x1, .f32⟩
  | .hbm, ⟨44, _⟩ => ⟨S2x32x128x1, .f32⟩
  | .hbm, ⟨45, _⟩ => ⟨S2x32x128x128, .f32⟩
  | .hbm, ⟨46, _⟩ => ⟨S2x32x128x128, .f32⟩
  | .hbm, ⟨47, _⟩ => ⟨S1x1x128x1, .i1⟩
  | .hbm, ⟨48, _⟩ => ⟨S_, .f32⟩
  | .hbm, ⟨49, _⟩ => ⟨S_, .f32⟩
  | .hbm, ⟨50, _⟩ => ⟨S2x32x128x128, .i1⟩
  | .hbm, ⟨51, _⟩ => ⟨S2x32x128x128, .f32⟩
  | .hbm, ⟨52, _⟩ => ⟨S2x32x128x128, .f32⟩
  | .hbm, ⟨53, _⟩ => ⟨S2x32x64x128, .f32⟩
  | .hbm, ⟨54, _⟩ => ⟨S2x128x32x64, .f32⟩
  | .hbm, ⟨55, _⟩ => ⟨S2x128x2048, .f32⟩
  | .hbm, ⟨56, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Talk.Mesh.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.Lib.Transfers
public import Idealize.ShloMosaic.PureOps
public import Idealize.ShloMosaic.Harness.Basic

@[expose] public section

noncomputable section

/-!
# The eight devices and the pieces of their buffers

A device talks to each of the seven others. The exchange number `d : Fin 7` of device `c` goes to the
device `d + 1` places further round (`nb c d`) and comes from the device `d + 1` places back
(`pv c d`). Every buffer that takes part in the exchange is cut into eight pieces: the scratch of
partial sums and the scratch of gathered rows into eight blocks of 32 rows, the landing scratch into
its eight slots.
-/

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Who talks to whom -/

/-- The device `d + 1` places after `c`. -/
def nb (c : Dev nD) (d : Fin 7) : Dev nD := ⟨(c.val + d.val + 1) % 8, Nat.mod_lt _ (by decide)⟩
/-- The device `d + 1` places before `c`. -/
def pv (c : Dev nD) (d : Fin 7) : Dev nD := ⟨(c.val + 7 - d.val) % 8, Nat.mod_lt _ (by decide)⟩
/-- The exchange number that undoes `d`: going on by `d + 1` and by `rev d + 1` places leads home. -/
def rev (d : Fin 7) : Fin 7 := Fin.rev d

theorem pv_nb (c : Dev nD) (d : Fin 7) : pv (nb c d) d = c := by revert c d; decide
theorem nb_pv (c : Dev nD) (d : Fin 7) : nb (pv c d) d = c := by revert c d; decide
theorem nb_nb_rev (c : Dev nD) (d : Fin 7) : nb (nb c d) (rev d) = c := by revert c d; decide
theorem pv_rev (c : Dev nD) (d : Fin 7) : pv c (rev d) = nb c d := by revert c d; decide
theorem nb_rev (c : Dev nD) (d : Fin 7) : nb c (rev d) = pv c d := by revert c d; decide
theorem rev_rev (d : Fin 7) : rev (rev d) = d := Fin.rev_rev d
theorem nb_ne (c : Dev nD) (d : Fin 7) : nb c d ≠ c := by revert c d; decide
theorem nb_inj (c : Dev nD) : Function.Injective (nb c) := by
  intro d e h; revert c d e; decide

/-- Going round by `d + 1` places, as a permutation of the devices. -/
def turn (d : Fin 7) : Dev nD ≃ Dev nD := ⟨fun c => nb c d, fun c => pv c d, fun c => pv_nb c d, fun c => nb_pv c d⟩

/-- The devices the printed signals and copies address. -/
theorem sig_devs (c : Dev nD) :
    (⟨k0_dev1 c, k0_dev1_lt c⟩ : Dev nD) = nb c 0 ∧ (⟨k0_dev2 c, k0_dev2_lt c⟩ : Dev nD) = nb c 1
      ∧ (⟨k0_dev3 c, k0_dev3_lt c⟩ : Dev nD) = nb c 2 ∧ (⟨k0_dev4 c, k0_dev4_lt c⟩ : Dev nD) = nb c 3
      ∧ (⟨k0_dev5 c, k0_dev5_lt c⟩ : Dev nD) = nb c 4 ∧ (⟨k0_dev6 c, k0_dev6_lt c⟩ : Dev nD) = nb c 5
      ∧ (⟨k0_dev7 c, k0_dev7_lt c⟩ : Dev nD) = nb c 6 := by
  revert c; decide +kernel
theorem rs_devs (c : Dev nD) :
    (⟨k0_dev8 c, k0_dev8_lt c⟩ : Dev nD) = nb c 0 ∧ (⟨k0_dev9 c, k0_dev9_lt c⟩ : Dev nD) = nb c 1
      ∧ (⟨k0_dev10 c, k0_dev10_lt c⟩ : Dev nD) = nb c 2 ∧ (⟨k0_dev11 c, k0_dev11_lt c⟩ : Dev nD) = nb c 3
      ∧ (⟨k0_dev12 c, k0_dev12_lt c⟩ : Dev nD) = nb c 4 ∧ (⟨k0_dev13 c, k0_dev13_lt c⟩ : Dev nD) = nb c 5
      ∧ (⟨k0_dev14 c, k0_dev14_lt c⟩ : Dev nD) = nb c 6 := by
  revert c; decide +kernel
theorem ag_devs (c : Dev nD) :
    (⟨k0_dev15 c, k0_dev15_lt c⟩ : Dev nD) = nb c 0 ∧ (⟨k0_dev16 c, k0_dev16_lt c⟩ : Dev nD) = nb c 1
      ∧ (⟨k0_dev17 c, k0_dev17_lt c⟩ : Dev nD) = nb c 2 ∧ (⟨k0_dev18 c, k0_dev18_lt c⟩ : Dev nD) = nb c 3
      ∧ (⟨k0_dev19 c, k0_dev19_lt c⟩ : Dev nD) = nb c 4 ∧ (⟨k0_dev20 c, k0_dev20_lt c⟩ : Dev nD) = nb c 5
      ∧ (⟨k0_dev21 c, k0_dev21_lt c⟩ : Dev nD) = nb c 6 := by
  revert c; decide +kernel

/-- Where block `j` of 32 rows starts. -/
abbrev blkOff (j : Dev nD) : Fin 2 → ℕ := ![32 * j.val, 0]
theorem blk_inb (j : Dev nD) : ∀ a, blkOff j a + S32x512.size a ≤ S256x512.size a := by revert j; decide

theorem vec2_ext {f g : Fin 2 → ℕ} (h0 : f 0 = g 0) (h1 : f 1 = g 1) : f = g := by
  funext a; match a with | 0 => exact h0 | 1 => exact h1

theorem off1_eq (c : Dev nD) (d : Fin 7) : k0_off1 c (BitVec.ofNat 32 (d.val + 1)) = blkOff (nb c d) :=
  vec2_ext (by revert c d; decide +kernel) (by revert c d; decide +kernel)
theorem off2_eq (c : Dev nD) : k0_off2 c = blkOff c := k0_off2_eq c
theorem off3_eq (c : Dev nD) : k0_off3 c = blkOff c := k0_off3_eq c
theorem off4_eq (c : Dev nD) (d : Fin 7) : k0_off4 c (BitVec.ofNat 32 (d.val + 1)) = blkOff (pv c d) :=
  vec2_ext (by revert c d; decide +kernel) (by revert c d; decide +kernel)

/-! ## The pieces -/

/-- Slot `j` of the landing scratch starts at row `j` of its first axis. -/
theorem slot_inb (j : Fin 8) : ∀ a, (![j.val, 0, 0] : Fin 3 → ℕ) a + S1x32x512.size a ≤ S8x32x512.size a := by revert j; decide
abbrev slotR (j : Fin 8) : Rect S8x32x512 := Rect.unit (s := S8x32x512) ![j.val, 0, 0] S1x32x512.size (slot_inb j)
abbrev blkR (j : Dev nD) : Rect S256x512 := Rect.unit (s := S256x512) (blkOff j) S32x512.size (blk_inb j)

/-- Rows `32 j … 32 j + 31` of the scratch of partial sums. -/
abbrev partM (j : Dev nD) : Memref sig .tc .vmem S32x512 .f32 := (Memref.whole cc0_scratch0).slice (blkR j) (fun _ => rfl)
/-- Slot `j` of the landing scratch. -/
abbrev slotM (j : Fin 8) : Memref sig .tc .vmem S32x512 .f32 :=
  ((Memref.whole cc0_scratch1).slice (slotR j) (fun _ => rfl)).squeeze S32x512 squeezes_S1x32x512_S32x512
/-- Rows `32 j … 32 j + 31` of the scratch of gathered rows. -/
abbrev agM (j : Dev nD) : Memref sig .tc .vmem S32x512 .f32 := (Memref.whole cc0_scratch2).slice (blkR j) (fun _ => rfl)

/-- The slot exchange number `d` lands in. -/
abbrev sl (d : Fin 7) : Fin 8 := d.succ

/-- What one block's copy credits. -/
def N : ℕ := (agM 0).view.dmaCredit
theorem N_pos : 0 < N := View.dmaCredit_pos _ (by decide)
/-- Every block the copies move counts the same. -/
theorem credit_any (m : Memref sig .tc .vmem S32x512 .f32) : m.view.dmaCredit = N := rfl
theorem credit_part (j : Dev nD) : (partM j).view.dmaCredit = N := rfl
theorem credit_ag (j : Dev nD) : (agM j).view.dmaCredit = N := rfl
theorem credit_slot (j : Fin 8) : (slotM j).view.dmaCredit = N := rfl

/-! ## The cells -/

abbrev barCell (c : Dev nD) : GSem nD τ sig := ((c : Thread nD τ), .reg barrier0)
/-- The copy semaphores come in four arrays of eight: the sends and arrivals of the scattered blocks (0, 1) and of the
    gathered blocks (2, 3). Member `d + 1` of array `k` serves exchange number `d`. -/
def dS (k : Fin 4) (d : Fin 7) : DmaSem sig := ⟨7 + 8 * k.val + d.val, by
  have := k.isLt; have := d.isLt; show 7 + 8 * k.val + d.val < 38; omega⟩
abbrev dCell (c : Dev nD) (k : Fin 4) (d : Fin 7) : GSem nD τ sig := ((c : Thread nD τ), .dma (dS k d))

/-- Which array and exchange number a semaphore serves, if any. -/
def kind (sm : SemLoc sig) : Option (Fin 4 × Fin 7) :=
  match sm with
  | .dma s => if h : 6 ≤ s.val ∧ (s.val - 6) % 8 ≠ 0 then
      some (⟨(s.val - 6) / 8, by have : s.val < 38 := s.isLt; omega⟩, ⟨(s.val - 6) % 8 - 1, by omega⟩) else none
  | .reg _ => none

theorem kind_dS (k : Fin 4) (d : Fin 7) : kind (.dma (dS k d)) = some (k, d) := by
  have hk := k.isLt; have hd := d.isLt
  have h1 : (7 + 8 * k.val + d.val - 6) / 8 = k.val := by omega
  have h2 : (7 + 8 * k.val + d.val - 6) % 8 - 1 = d.val := by omega
  show (if h : 6 ≤ 7 + 8 * k.val + d.val ∧ (7 + 8 * k.val + d.val - 6) % 8 ≠ 0 then
      some ((⟨(7 + 8 * k.val + d.val - 6) / 8, _⟩ : Fin 4), (⟨(7 + 8 * k.val + d.val - 6) % 8 - 1, _⟩ : Fin 7)) else none) = _
  rw [dif_pos (by omega)]
  exact congrArg some (Prod.ext (Fin.ext h1) (Fin.ext h2))

theorem dS_inj {k k' : Fin 4} {d d' : Fin 7} (h : dS k d = dS k' d') : k = k' ∧ d = d' := by
  have e : kind (.dma (dS k d)) = kind (.dma (dS k' d')) := by rw [h]
  rw [kind_dS, kind_dS] at e
  exact Prod.mk.inj (Option.some.inj e)

theorem dma_ne_bar (s : DmaSem sig) : (SemLoc.dma s : SemLoc sig) ≠ .reg barrier0 := fun h => by cases h
theorem eq_dS_of_kind {sm : SemLoc sig} {k : Fin 4} {d : Fin 7} (h : kind sm = some (k, d)) : sm = .dma (dS k d) := by
  match sm, h with
  | .dma s, h =>
    have hs : s.val < 38 := s.isLt
    simp only [kind] at h
    split at h
    · rename_i hc
      obtain ⟨e1, e2⟩ := Prod.mk.inj (Option.some.inj h)
      have e1 := congrArg Fin.val e1; have e2 := congrArg Fin.val e2
      simp only at e1 e2
      refine congrArg SemLoc.dma (Fin.ext ?_)
      show s.val = 7 + 8 * k.val + d.val
      omega
    · cases h
  | .reg s, h => cases h

/-! ## The sets of elements under the pieces -/

theorem mem_blk (j : Dev nD) (i : S256x512.Idx) : i ∈ (blkR j).set ↔ (i 0).val / 32 = j.val := by
  refine Rect.mem_set_unit.trans ⟨fun h => ?_, fun h a => ?_⟩
  · obtain ⟨h1, h2⟩ := h 0
    have h1 : 32 * j.val ≤ (i 0).val := h1
    have h2 : (i 0).val < 32 * j.val + 32 := h2
    omega
  · match a with
    | ⟨0, _⟩ =>
      show 32 * j.val ≤ (i 0).val ∧ (i 0).val < 32 * j.val + 32
      omega
    | ⟨1, _⟩ => exact ⟨Nat.zero_le _, (Nat.zero_add 512).symm ▸ (i 1).isLt⟩

theorem mem_slot (j : Fin 8) (i : S8x32x512.Idx) : i ∈ (slotR j).set ↔ (i 0).val = j.val := by
  refine Rect.mem_set_unit.trans ⟨fun h => ?_, fun h a => ?_⟩
  · obtain ⟨h1, h2⟩ := h 0
    have h1 : j.val ≤ (i 0).val := h1
    have h2 : (i 0).val < j.val + 1 := h2
    omega
  · match a with
    | ⟨0, _⟩ =>
      show j.val ≤ (i 0).val ∧ (i 0).val < j.val + 1
      omega
    | ⟨1, _⟩ => exact ⟨Nat.zero_le _, (Nat.zero_add 32).symm ▸ (i 1).isLt⟩
    | ⟨2, _⟩ => exact ⟨Nat.zero_le _, (Nat.zero_add 512).symm ▸ (i 2).isLt⟩

theorem part_set (j : Dev nD) : (partM j).view.set = (blkR j).set := View.set_slice_whole ..
theorem ag_set (j : Dev nD) : (agM j).view.set = (blkR j).set := View.set_slice_whole ..
theorem slot_set (j : Fin 8) : (slotM j).view.set = (slotR j).set := (View.set_reshape ..).trans (View.set_slice_whole ..)

theorem blk_disjoint (j k : Dev nD) (h : j ≠ k) : Disjoint (blkR j).set (blkR k).set :=
  Finset.disjoint_left.mpr fun i hj hk => h (Fin.ext (((mem_blk j i).mp hj).symm.trans ((mem_blk k i).mp hk)))
theorem slot_disjoint (j k : Fin 8) (h : j ≠ k) : Disjoint (slotR j).set (slotR k).set :=
  Finset.disjoint_left.mpr fun i hj hk => h (Fin.ext (((mem_slot j i).mp hj).symm.trans ((mem_slot k i).mp hk)))

/-- Which block of 32 rows an element lies in. -/
def blkOf (i : S256x512.Idx) : Dev nD := ⟨(i 0).val / 32, by have : (i 0).val < 256 := (i 0).isLt; show _ < 8; omega⟩

theorem blk_cover : Finset.univ.biUnion (fun j : Dev nD => (blkR j).set) = Finset.univ :=
  Finset.eq_univ_of_forall fun i => Finset.mem_biUnion.mpr ⟨blkOf i, Finset.mem_univ _, (mem_blk _ i).mpr rfl⟩
theorem slot_cover : Finset.univ.biUnion (fun j : Fin 8 => (slotR j).set) = Finset.univ :=
  Finset.eq_univ_of_forall fun i => Finset.mem_biUnion.mpr ⟨i 0, Finset.mem_univ _, (mem_slot _ i).mpr rfl⟩

end Cert.KernelIdeal.Talk
-- ==== Proof.Talk.Contents.lean ====
module

public import proofs.«01_k».proof.Proof.Talk.Mesh
public import Idealize.ShloMosaic.Lib.ValueLayout
public import Idealize.ShloMosaic.Lib.ViewIndex
public import Idealize.ShloMosaic.Lib.Pipeline.ValueKit.Geometry
public import Idealize.ShloMosaic.Lib.Pipeline.Value

@[expose] public section

noncomputable section

/-!
# What the buffers hold

Each device starts from its five staged arrays (`Inputs`). From them it computes its own partial sums
(`part`), 256 rows. The exchange leaves in slot `j` of its landing scratch the rows of its own block as
the device `j` places back computed them (`landed`). The sum of its own rows and the seven landed
blocks, in the order the program adds them, is its block of the result (`total`); the second exchange
puts all eight blocks together (`gathered`), the same on every device, and the result (`result`) is
that array as two batches.
-/

namespace Cert.KernelIdeal.Talk

open Cert.KernelIdeal Cert.KernelIdeal.Gen
open Idealize.ShloMosaic
open Idealize.ShloMosaic.TcCoe
open Idealize.ShloMosaic.ValueIdx (ix2 ix3 eq_ix2 eq_ix3)

variable {F : FTy → Type} [FloatOps F]

/-- One device's staged arrays: the tokens, its heads' columns of the query weights, its heads of the keys and the
    values, its heads' rows of the output weights. -/
structure Inputs (F : FTy → Type) where
  x : FVec F S2x128x512 .f32
  wq : FVec F S512x256 .f32
  k : FVec F S8x128x64 .f32
  v : FVec F S8x128x64 .f32
  wo : FVec F S256x512 .f32

/-- The loads of one batch of the tokens, one head of the keys, one head of the values, and of the two weights. -/
abbrev ldX (I : Inputs F) (b : Fin 2) (inb : ∀ a, (![b.val, 0, 0] : Fin 3 → ℕ) a + S1x128x512.size a ≤ S2x128x512.size a) : Vec F S1x128x512 .f32 :=
  (Memref.whole cc0_stg0_0).view.readAt (Elt F) (Rect.unit (s := S2x128x512) ![b.val, 0, 0] S1x128x512.size inb).toLoadRect I.x
abbrev ldK (I : Inputs F) (h : Fin 8) (inb : ∀ a, (![h.val, 0, 0] : Fin 3 → ℕ) a + S1x128x64.size a ≤ S8x128x64.size a) : Vec F S1x128x64 .f32 :=
  (Memref.whole cc0_stg2_0).view.readAt (Elt F) (Rect.unit (s := S8x128x64) ![h.val, 0, 0] S1x128x64.size inb).toLoadRect I.k
abbrev ldV (I : Inputs F) (h : Fin 8) (inb : ∀ a, (![h.val, 0, 0] : Fin 3 → ℕ) a + S1x128x64.size a ≤ S8x128x64.size a) : Vec F S1x128x64 .f32 :=
  (Memref.whole cc0_stg3_0).view.readAt (Elt F) (Rect.unit (s := S8x128x64) ![h.val, 0, 0] S1x128x64.size inb).toLoadRect I.v
abbrev ldWq (I : Inputs F) : Vec F S512x256 .f32 :=
  (Memref.whole cc0_stg1_0).view.readAt (Elt F) (Rect.unit (s := S512x256) ![0, 0] S512x256.size inb_S512x256_S512x256_0_0).toLoadRect I.wq
abbrev ldWo (I : Inputs F) : Vec F S256x512 .f32 :=
  (Memref.whole cc0_stg4_0).view.readAt (Elt F) (Rect.unit (s := S256x512) ![0, 0] S256x512.size inb_S256x512_S256x512_0_0).toLoadRect I.wo

theorem x_inb (b : Fin 2) : ∀ a, (![b.val, 0, 0] : Fin 3 → ℕ) a + S1x128x512.size a ≤ S2x128x512.size a := by revert b; decide
theorem h_inb (h : Fin 8) : ∀ a, (![h.val, 0, 0] : Fin 3 → ℕ) a + S1x128x64.size a ≤ S8x128x64.size a := by revert h; decide

/-- The projected queries of batch `b`, one column block of 64 per head. -/
def query (I : Inputs F) : Fin 2 → FVec F S128x256 .f32
  | 0 => k0_pay4 (ldWq I) (ldX I 0 (x_inb 0))
  | 1 => k0_pay12 (k0_pay2 (ldWq I)) (ldX I 1 (x_inb 1))

/-- The first batch's rows of the partial sums. -/
def part0 (I : Inputs F) : FVec F S128x512 .f32 :=
  k0_pay11 (k0_pay3 (ldWo I))
    (k0_pay5 (ldWq I) (ldX I 0 (x_inb 0)) (ldK I 0 (h_inb 0)) (ldV I 0 (h_inb 0)))
    (k0_pay7 (k0_pay6 (ldWq I) (ldX I 0 (x_inb 0)) (ldK I 1 (h_inb 1))) (ldV I 1 (h_inb 1)))
    (k0_pay8 (query I 0) (ldK I 2 (h_inb 2)) (ldV I 2 (h_inb 2)))
    (k0_pay9 (query I 0) (ldK I 3 (h_inb 3))) (k0_pay10 (query I 0) (ldK I 3 (h_inb 3))) (ldV I 3 (h_inb 3))

/-- What one device contributes to the result: its heads' context times its rows of the output weights. -/
def part (I : Inputs F) : FVec F S256x512 .f32 :=
  k0_pay19 (k0_pay3 (ldWo I)) (part0 I)
    (k0_pay13 (k0_pay2 (ldWq I)) (ldX I 1 (x_inb 1)) (ldK I 4 (h_inb 4)) (ldV I 4 (h_inb 4)))
    (k0_pay15 (k0_pay14 (k0_pay2 (ldWq I)) (ldX I 1 (x_inb 1)) (ldK I 5 (h_inb 5))) (ldV I 5 (h_inb 5)))
    (k0_pay16 (query I 1) (ldK I 6 (h_inb 6)) (ldV I 6 (h_inb 6)))
    (k0_pay17 (query I 1) (ldK I 7 (h_inb 7))) (k0_pay18 (query I 1) (ldK I 7 (h_inb 7))) (ldV I 7 (h_inb 7))

/-- Row `r` of block `j`, column `k`. -/
def rowOf (j : Dev nD) (r : Fin 32) (k : Fin 512) : S256x512.Idx :=
  ix2 ⟨32 * j.val + r.val, by have : j.val < 8 := j.isLt; have := r.isLt; omega⟩ k

variable (inp : Dev nD → Inputs F)

/-- The device `j` places before `c`. -/
def back (c : Dev nD) (j : Fin 8) : Dev nD := ⟨(c.val + 8 - j.val) % 8, Nat.mod_lt _ (by decide)⟩
theorem back_succ (c : Dev nD) (d : Fin 7) : back c d.succ = pv c d := by revert c d; decide

/-- The landing scratch of device `c` when every block has arrived. -/
def landed (c : Dev nD) : FVec F S8x32x512 .f32 := fun i => part (inp (back c (i 0))) (rowOf c (i 1) (i 2))

/-- Device `c`'s own rows of its own partial sums, and slot `j` of what landed. -/
abbrev ownRows (c : Dev nD) : Vec F S32x512 .f32 := (Memref.whole cc0_scratch0).view.readAt (Elt F) (blkR c).toLoadRect (part (inp c))
abbrev slotRows (c : Dev nD) (j : Fin 8) : Vec F S1x32x512 .f32 := (Memref.whole cc0_scratch1).view.readAt (Elt F) (slotR j).toLoadRect (landed inp c)

/-- Device `c`'s block of the result. -/
def total (c : Dev nD) : FVec F S32x512 .f32 :=
  k0_pay22 (k0_pay21 (k0_pay20 (ownRows inp c) (slotRows inp c 1) (slotRows inp c 2))
    (slotRows inp c 3) (slotRows inp c 4) (slotRows inp c 5)) (slotRows inp c 6) (slotRows inp c 7)

/-- All eight blocks together. -/
def gathered : FVec F S256x512 .f32 := fun i => total inp (blkOf i) (ix2 ⟨(i 0).val % 32, Nat.mod_lt _ (by decide)⟩ (i 1))

/-- The result, as two batches of 128 rows. -/
def result : FVec F S2x128x512 .f32 :=
  k0_pay1 ((Memref.whole cc0_scratch2).view.readAt (Elt F) (Rect.unit (s := S256x512) ![0, 0] S256x512.size inb_S256x512_S256x512_0_0).toLoadRect (gathered inp))

/-! ## What the stores and the copies leave -/

/-- A write through a view whose payload is what the view reads of `g` leaves `g` at every element under the view. -/
theorem write_read_eq {sp : Space} {s : Shape} {e : EltTy} (v : View sig .tc sp s e) (f g : v.ty.Contents (Elt F))
    (w : s.Idx → Elt F e) (hw : ∀ x, w x = v.read (Elt F) g x) (i : v.ty.Idx) (hi : i ∈ v.set) :
    v.write (Elt F) f w Finset.univ i = g i := by
  obtain ⟨x, -, rfl⟩ := Finset.mem_map.mp hi
  exact View.eq_of_read_eq ((View.read_write_of_mem f w (Finset.mem_univ x)).trans (hw x))

theorem blk_emb (j : Dev nD) (r : Fin 32) (k : Fin 512) : (blkR j).emb (ix2 r k) = rowOf j r k := by
  refine funext fun a => Fin.ext ?_
  match a with
  | ⟨0, _⟩ => exact ValueKit.rect_emb_unit_val _ _ _ _ 0
  | ⟨1, _⟩ => exact (ValueKit.rect_emb_unit_val _ _ _ _ 1).trans (Nat.zero_add _)

theorem slot_emb (j : Fin 8) (r : Fin 32) (k : Fin 512) : (slotR j).emb (ix3 0 r k) = ix3 j r k := by
  refine funext fun a => Fin.ext ?_
  match a with
  | ⟨0, _⟩ => exact (ValueKit.rect_emb_unit_val _ _ _ _ 0).trans (Nat.add_zero _)
  | ⟨1, _⟩ => exact (ValueKit.rect_emb_unit_val _ _ _ _ 1).trans (Nat.zero_add _)
  | ⟨2, _⟩ => exact (ValueKit.rect_emb_unit_val _ _ _ _ 2).trans (Nat.zero_add _)

/-- The block of the partial sums that travels from `c` is what the receiver's slot then holds. -/
theorem rs_copy (c : Dev nD) (d : Fin 7) (fd : (slotM (sl d)).view.ty.Contents (Elt F)) :
    ∀ i ∈ (slotM (sl d)).view.set,
      (slotM (sl d)).view.write (Elt F) fd ((partM (nb c d)).view.read (Elt F) (part (inp c))) Finset.univ i = landed inp (nb c d) i := by
  refine write_read_eq _ fd (landed inp (nb c d)) _ fun x => ?_
  obtain ⟨r, k, rfl⟩ : ∃ (r : Fin 32) (k : Fin 512), x = ix2 r k := ⟨x 0, x 1, eq_ix2 x⟩
  have e1 : (partM (nb c d)).view.read (Elt F) (part (inp c)) (ix2 r k) = part (inp c) (rowOf (nb c d) r k) :=
    congrArg (part (inp c)) (blk_emb (nb c d) r k)
  have e2 : (slotM (sl d)).view.read (Elt F) (landed inp (nb c d)) (ix2 r k) = landed inp (nb c d) (ix3 (sl d) r k) :=
    congrArg (landed inp (nb c d)) ((congrArg (slotR (sl d)).emb (ValueIdx.reshapeEquiv_ix2_1ab _ r k)).trans (slot_emb (sl d) r k))
  refine e1.trans (Eq.trans ?_ e2.symm)
  show part (inp c) (rowOf (nb c d) r k) = part (inp (back (nb c d) d.succ)) (rowOf (nb c d) r k)
  rw [back_succ, pv_nb]

/-- The block of gathered rows that travels from `c` is the same rows at the receiver. -/
theorem ag_copy (c : Dev nD) (fd : (agM c).view.ty.Contents (Elt F)) :
    ∀ i ∈ (agM c).view.set,
      (agM c).view.write (Elt F) fd ((agM c).view.read (Elt F) (gathered inp)) Finset.univ i = gathered inp i :=
  write_read_eq _ fd (gathered inp) _ fun _ => rfl

theorem gathered_row (c : Dev nD) (r : Fin 32) (k : Fin 512) : gathered inp (rowOf c r k) = total inp c (ix2 r k) := by
  have hr := r.isLt
  have h1 : blkOf (rowOf c r k) = c := Fin.ext (by show (32 * c.val + r.val) / 32 = c.val; omega)
  have h2 : ((rowOf c r k) 0).val % 32 = r.val := by show (32 * c.val + r.val) % 32 = r.val; omega
  show total inp (blkOf (rowOf c r k)) (ix2 ⟨((rowOf c r k) 0).val % 32, _⟩ k) = _
  rw [h1]
  exact congrArg (fun z => total inp c (ix2 z k)) (Fin.ext h2)

/-- The store of a device's block is that device's rows of the gathered array. -/
theorem ag_store (c : Dev nD) (f : (agM c).view.ty.Contents (Elt F)) :
    ∀ i ∈ (agM c).view.set,
      ((Memref.whole cc0_scratch2).access (blkR c)).write (Elt F) f (total inp c) Finset.univ i = gathered inp i := by
  refine write_read_eq ((Memref.whole cc0_scratch2).access (blkR c)) f (gathered inp) (total inp c) fun x => ?_
  obtain ⟨r, k, rfl⟩ : ∃ (r : Fin 32) (k : Fin 512), x = ix2 r k := ⟨x 0, x 1, eq_ix2 x⟩
  exact (gathered_row inp c r k).symm.trans (congrArg (gathered inp) (blk_emb c r k).symm)

/-- A store through a rectangle that is the whole buffer leaves the payload. -/
theorem store_whole (b : Ref sig .tc) {off : Fin b.ty.shape.rank → ℕ} (h : off = fun _ => 0)
    (inb : ∀ a, off a + b.ty.shape.size a ≤ b.ty.shape.size a) (f w : b.ty.Contents (Elt F)) :
    ((View.whole b).slice (Rect.unit off b.ty.shape.size inb)).write (Elt F) f w Finset.univ = w := by
  subst h
  funext i
  refine write_read_eq _ f w w (fun x => congrArg w (funext fun a => Fin.ext ?_)) i ?_
  · exact ((ValueKit.rect_emb_unit_val _ _ _ x a).trans (Nat.zero_add _)).symm
  · rw [View.set_slice_whole]; exact View.mem_set_unit_zero rfl inb i

theorem zero2 : (![0, 0] : Fin 2 → ℕ) = fun _ => 0 := by funext a; match a with | 0 => rfl | 1 => rfl
theorem zero3 : (![0, 0, 0] : Fin 3 → ℕ) = fun _ => 0 := by funext a; match a with | 0 => rfl | 1 => rfl | 2 => rfl

theorem part_store (f : (cc0_scratch0 : Ref sig .tc).ty.Contents (Elt F)) (w : FVec F S256x512 .f32) :
    ((Memref.whole cc0_scratch0).access (Rect.unit (s := S256x512) ![0, 0] S256x512.size inb_S256x512_S256x512_0_0)).write (Elt F) f w Finset.univ = w :=
  store_whole cc0_scratch0 zero2 inb_S256x512_S256x512_0_0 f w
theorem result_store (f : (cc0_stg5_0 : Ref sig .tc).ty.Contents (Elt F)) (w : FVec F S2x128x512 .f32) :
    ((Memref.whole cc0_stg5_0).access (Rect.unit (s := S2x128x512) ![0, 0, 0] S2x128x512.size inb_S2x128x512_S2x128x512_0_0_0)).write (Elt F) f w Finset.univ = w :=
  store_whole cc0_stg5_0 zero3 inb_S2x128x512_S2x128x512_0_0_0 f w

end Cert.KernelIdeal.Talk
-- ==== Proof.Talk.Schedule.lean ====
module

public import proofs.«01_k».proof.Proof.Talk.Contents

@[expose] public section

noncomputable section

/-!
# The duties between the devices

Every cell is used for one round. The barrier cell of device `c` has seven duties, one per other
device: exchange partner `nb c e` pays duty `e` with one unit and hands over the places of its own
that `c` will write: slot `e` of its landing scratch and the rows of block `c` of its gathered array,
with the fact that its two arrival cells for that exchange are open. Every copy cell has one duty,
paid by the copy that completes there: an arrival cell yields the piece that was written, at its new
contents; a sending cell yields the piece that was read.

A device waits on a cell only while all it still owes lies on a higher level: barrier cells are at
level 1, arrivals of scattered blocks at 2, arrivals of gathered blocks at 3.
-/

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's own duties beside the talk's. -/
abbrev UU : Type := UR sig nD τ × URounds (GSem nD τ sig) (Fin 7)

local notation "𝕄" => MT nD τ sig Unit (Elt F) ℕ UU ℕ

abbrev EP : Emb (UR sig nD τ) (MT nD τ sig Unit (Elt F) ℕ UU ℕ) := embL
abbrev ER : Emb (URounds (GSem nD τ sig) (Fin 7)) (MT nD τ sig Unit (Elt F) ℕ UU ℕ) := embR

variable (inp : Dev nD → Inputs F)

/-! ## The pieces held -/

/-- Block `j` of the partial sums at `c`; slot `j` of the landing scratch at `c`; block `j` of the gathered array at `c`
    (a share of it). -/
abbrev partPt (c : Dev nD) (j : Dev nD) (f : FVec F S256x512 .f32) : sProp 𝕄 :=
  (partM j).view.loc (c : Thread nD τ) ↦[(partM j).view.set]{fullShare} f
abbrev slotPt (c : Dev nD) (j : Fin 8) (f : FVec F S8x32x512 .f32) : sProp 𝕄 :=
  (slotM j).view.loc (c : Thread nD τ) ↦[(slotM j).view.set]{fullShare} f
abbrev agPt (c : Dev nD) (j : Dev nD) (q : PosShare TreeShare) (f : FVec F S256x512 .f32) : sProp 𝕄 :=
  (agM j).view.loc (c : Thread nD τ) ↦[(agM j).view.set]{q} f

/-- The share of its own block that a device's copy number `d` reads. -/
abbrev agShare (d : Fin 7) : PosShare TreeShare := Transfers.dealOf fullShare (Finset.univ : Finset (Fin 7)) d

/-! ## What is paid where -/

/-- Duty `e` of the barrier cell of `c`. -/
def barPay (c : Dev nD) (e : Fin 7) : sProp 𝕄 :=
  iprop((∃ f, slotPt (nb c e) (sl e) f) ∗ (∃ f, agPt (nb c e) c fullShare f)
    ∗ reached ER (dCell (nb c e) 1 e) 0 ∗ reached ER (dCell (nb c e) 3 e) 0)

/-- The duty of copy cell `(k, d)` of `c`. -/
def copyPay (c : Dev nD) (k : Fin 4) (d : Fin 7) : sProp 𝕄 :=
  match k with
  | 0 => partPt c (nb c d) (part (inp c))
  | 1 => slotPt c (sl d) (landed inp c)
  | 2 => agPt c c (agShare d) (gathered inp)
  | 3 => agPt c (pv c d) fullShare (gathered inp)

/-- The duties of every cell: all of round 0. -/
def talk : Rounds.Schedule (GSem nD τ sig) (Fin 7) 𝕄 where
  duties g r := if r = 0 ∧ g.1.2 = .tc then
      (if g.2 = .reg barrier0 then Finset.univ else if (kind g.2).isSome then {0} else ∅) else ∅
  unitless _ := False
  amount g _ _ := if g.2 = .reg barrier0 then 1 else N
  payload g _ d := if g.2 = .reg barrier0 then barPay g.1.1 d else
    match kind g.2 with
    | some kd => copyPay inp g.1.1 kd.1 kd.2
    | none => iprop(emp)
  amount_pos g _ _ _ := by
    by_cases h : g.2 = .reg barrier0
    · rw [if_pos h]; exact Nat.one_pos
    · rw [if_neg h]; exact N_pos

instance copyPay_storable (c : Dev nD) (k : Fin 4) (d : Fin 7) : BI.Storable (upEmb : UEmb _ 𝕄) (copyPay inp c k d) := by
  match k with
  | 0 => unfold copyPay; infer_instance
  | 1 => unfold copyPay; infer_instance
  | 2 => unfold copyPay; infer_instance
  | 3 => unfold copyPay; infer_instance

instance talk_storable (g : GSem nD τ sig) (r : ℕ) (d : Fin 7) :
    BI.Storable (upEmb : UEmb _ 𝕄) ((talk inp).payload g r d) := by
  show BI.Storable upEmb (if g.2 = .reg barrier0 then barPay g.1.1 d else
    match kind g.2 with
    | some kd => copyPay inp g.1.1 kd.1 kd.2
    | none => iprop(emp))
  split
  · unfold barPay; infer_instance
  · split <;> infer_instance

section Tables

variable (c : Dev nD) (k : Fin 4) (d : Fin 7)

theorem duties_bar : (talk inp).duties (barCell c) 0 = Finset.univ := by
  dsimp only [talk]
  rw [if_pos ⟨rfl, rfl⟩, if_pos rfl]
theorem duties_copy : (talk inp).duties (dCell c k d) 0 = {0} := by
  dsimp only [talk]
  rw [if_pos ⟨rfl, rfl⟩, if_neg (dma_ne_bar _), kind_dS]; rfl
theorem duties_later (g : GSem nD τ sig) : ∀ r, 1 ≤ r → (talk inp).duties g r = ∅ :=
  fun r hr => if_neg fun h => by have := h.1; omega

theorem amount_bar (e : Fin 7) : (talk inp).amount (barCell c) 0 e = 1 := by
  dsimp only [talk]; rw [if_pos rfl]
theorem amount_copy (e : Fin 7) : (talk inp).amount (dCell c k d) 0 e = N := by
  dsimp only [talk]; rw [if_neg (dma_ne_bar _)]

theorem expect_bar : (talk inp).expect (barCell c) 0 = 7 := by
  unfold Schedule.expect Schedule.amountOf
  rw [duties_bar, Finset.sum_congr rfl fun e _ => amount_bar inp c e]; rfl
theorem expect_copy : (talk inp).expect (dCell c k d) 0 = N := by
  unfold Schedule.expect Schedule.amountOf
  rw [duties_copy, Finset.sum_singleton, amount_copy]

theorem payload_bar (e : Fin 7) : (talk inp).payload (barCell c) 0 e = barPay c e := by
  dsimp only [talk]; rw [if_pos rfl]
theorem payload_copy (e : Fin 7) : (talk inp).payload (dCell c k d) 0 e = copyPay inp c k d := by
  dsimp only [talk]
  rw [if_neg (dma_ne_bar _), kind_dS]

theorem rest_bar : bigSep ((talk inp).duties (barCell c) 0 \ ∅) (fun e => (talk inp).payload (barCell c) 0 e)
    = bigSep Finset.univ fun e => barPay c e := by
  rw [Finset.sdiff_empty, duties_bar]
  exact congrArg _ (funext fun e => payload_bar inp c e)
theorem rest_copy : bigSep ((talk inp).duties (dCell c k d) 0 \ ∅) (fun e => (talk inp).payload (dCell c k d) 0 e) = copyPay inp c k d := by
  rw [Finset.sdiff_empty, duties_copy, bigSep_singleton, payload_copy]

end Tables

/-! ## What a device owes -/

/-- What it owes with `i` signals, `j` scattered and `k` gathered blocks already sent. -/
def owed (c : Dev nD) (i j k : ℕ) : CellTallies nD τ sig Unit :=
  ((Finset.univ.filter fun d : Fin 7 => i ≤ d.val).sum fun d => tallyAt (barCell (nb c d)) () 1)
    + ((Finset.univ.filter fun d : Fin 7 => j ≤ d.val).sum fun d => tallyAt (dCell (nb c d) 1 d) () N)
    + ((Finset.univ.filter fun d : Fin 7 => k ≤ d.val).sum fun d => tallyAt (dCell (nb c d) 3 d) () N)

theorem sum_from (f : Fin 7 → CellTallies nD τ sig Unit) (d : Fin 7) :
    ((Finset.univ.filter fun e : Fin 7 => d.val ≤ e.val).sum f) = ((Finset.univ.filter fun e : Fin 7 => d.val + 1 ≤ e.val).sum f) + f d := by
  rw [show (Finset.univ.filter fun e : Fin 7 => d.val ≤ e.val) = insert d (Finset.univ.filter fun e : Fin 7 => d.val + 1 ≤ e.val) from by
      revert d; decide, Finset.sum_insert (by simp), add_comm]

theorem add_first {M : Type} [AddCommMonoid M] (A B C t : M) : A + t + B + C = A + B + C + t := by
  rw [add_right_comm A t B, add_right_comm (A + B) t C]
theorem add_second {M : Type} [AddCommMonoid M] (A B C t : M) : A + (B + t) + C = A + B + C + t := by
  rw [← add_assoc A B t, add_right_comm (A + B) t C]

theorem owed_bar (c : Dev nD) (d : Fin 7) (j k : ℕ) :
    owed c d.val j k = owed c (d.val + 1) j k + tallyAt (barCell (nb c d)) () 1 := by
  unfold owed; rw [sum_from (fun d => tallyAt (barCell (nb c d)) () 1) d]; exact add_first _ _ _ _
theorem owed_rs (c : Dev nD) (d : Fin 7) (i k : ℕ) :
    owed c i d.val k = owed c i (d.val + 1) k + tallyAt (dCell (nb c d) 1 d) () N := by
  unfold owed; rw [sum_from (fun d => tallyAt (dCell (nb c d) 1 d) () N) d]; exact add_second _ _ _ _
theorem owed_ag (c : Dev nD) (d : Fin 7) (i j : ℕ) :
    owed c i j d.val = owed c i j (d.val + 1) + tallyAt (dCell (nb c d) 3 d) () N := by
  unfold owed; rw [sum_from (fun d => tallyAt (dCell (nb c d) 3 d) () N) d]; exact (add_assoc _ _ _).symm

theorem from7 : (Finset.univ.filter fun d : Fin 7 => 7 ≤ d.val) = ∅ := by decide
theorem owed_done (c : Dev nD) : owed c 7 7 7 = 0 := by
  unfold owed; rw [from7, Finset.sum_empty, Finset.sum_empty, Finset.sum_empty, add_zero, add_zero]

/-! ## Levels -/

def L (g : GSem nD τ sig) : Finset Unit := if g.1.2 = .tc then {()} else ∅
/-- Barrier cells at 1, arrivals of scattered blocks at 2, arrivals of gathered blocks at 3, the rest at 0. -/
def lv (g : GSem nD τ sig) (_ : Unit) : ℕ :=
  if g.2 = .reg barrier0 then 1 else match kind g.2 with
    | some (1, _) => 2
    | some (3, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_copy (c : Dev nD) (k : Fin 4) (d : Fin 7) : lv (dCell c k d) () = match k with | 1 => 2 | 3 => 3 | _ => 0 := by
  dsimp only [lv]
  rw [if_neg (dma_ne_bar _), kind_dS]
  match k with
  | 0 => rfl
  | 1 => rfl
  | 2 => rfl
  | 3 => rfl

theorem sum_pos {s : Finset (Fin 7)} {f : Fin 7 → CellTallies nD τ sig Unit} {g : GSem nD τ sig} {u : Unit}
    (h : 0 < (s.sum f) g u) : ∃ d ∈ s, 0 < f d g u := by
  by_contra hn
  push Not at hn
  have : (s.sum f) g u = 0 := by
    rw [show (s.sum f) g u = s.sum fun d => f d g u from
      (DFunLike.congr_fun (Finset.sum_apply g s f) u).trans (Finsupp.finset_sum_apply _ _ _)]
    exact Finset.sum_eq_zero fun d hd => Nat.le_zero.mp (hn d hd)
  omega

/-- Whatever is owed lies on one of the partners' barrier or arrival cells. -/
theorem owed_pos {c : Dev nD} {i j k : ℕ} {g : GSem nD τ sig} {u : Unit} (h : 0 < owed c i j k g u) :
    (∃ d : Fin 7, i ≤ d.val ∧ g = barCell (nb c d)) ∨ (∃ d : Fin 7, j ≤ d.val ∧ g = dCell (nb c d) 1 d)
      ∨ (∃ d : Fin 7, k ≤ d.val ∧ g = dCell (nb c d) 3 d) := by
  have at_pos : ∀ {g' : GSem nD τ sig} {n : ℕ}, 0 < tallyAt g' () n g u → g = g' := fun {g' n} hp => by
    rw [tallyAt_apply] at hp
    by_contra hne
    rw [if_neg fun e => hne e.1] at hp
    exact absurd hp (Nat.lt_irrefl 0)
  unfold owed at h
  have h : 0 < _ + _ + _ := h
  by_cases h1 : 0 < ((Finset.univ.filter fun d : Fin 7 => i ≤ d.val).sum fun d => tallyAt (barCell (nb c d)) () 1) g u
  · obtain ⟨d, hd, hp⟩ := sum_pos h1
    exact .inl ⟨d, (Finset.mem_filter.mp hd).2, at_pos hp⟩
  by_cases h2 : 0 < ((Finset.univ.filter fun d : Fin 7 => j ≤ d.val).sum fun d => tallyAt (dCell (nb c d) 1 d) () N) g u
  · obtain ⟨d, hd, hp⟩ := sum_pos h2
    exact .inr (.inl ⟨d, (Finset.mem_filter.mp hd).2, at_pos hp⟩)
  obtain ⟨d, hd, hp⟩ := sum_pos (s := Finset.univ.filter fun d : Fin 7 => k ≤ d.val)
    (f := fun d => tallyAt (dCell (nb c d) 3 d) () N) (g := g) (u := u) (by omega)
  exact .inr (.inr ⟨d, (Finset.mem_filter.mp hd).2, at_pos hp⟩)

/-- A device may wait on a cell of level `n` when what it still owes lies above `n`. -/
theorem mayWait_of (c : Dev nD) (sm : SemLoc sig) (O : CellTallies nD τ sig Unit) (n : ℕ)
    (hs : lv ((c : Thread nD τ), sm) () ≤ n) (hO : ∀ g u, 0 < O g u → g.1.2 = .tc ∧ n < lv g ()) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hs)
    (fun g u hg => (hO g u hg).2)

theorem mayWait_bar (c : Dev nD) : (levAts L lv : sProp 𝕄) ⊢ MayWait (c : Thread nD τ) (.reg barrier0) () (owed c 7 0 0) :=
  mayWait_of c _ _ 1 (by rw [lv_bar]) fun g u h => by
    rcases owed_pos h with ⟨d, hd, -⟩ | ⟨d, -, rfl⟩ | ⟨d, -, rfl⟩
    · exact absurd d.isLt (by omega)
    · exact ⟨rfl, by rw [lv_copy]; decide⟩
    · exact ⟨rfl, by rw [lv_copy]; decide⟩
theorem mayWait_rs (c : Dev nD) (d : Fin 7) : (levAts L lv : sProp 𝕄) ⊢ MayWait (c : Thread nD τ) (.dma (dS 1 d)) () (owed c 7 7 0) :=
  mayWait_of c _ _ 2 (by rw [lv_copy]; decide) fun g u h => by
    rcases owed_pos h with ⟨d, hd, -⟩ | ⟨d, hd, -⟩ | ⟨d, -, rfl⟩
    · exact absurd d.isLt (by omega)
    · exact absurd d.isLt (by omega)
    · exact ⟨rfl, by rw [lv_copy]; decide⟩
theorem mayWait_done (c : Dev nD) (k : Fin 4) (d : Fin 7) :
    (levAts L lv : sProp 𝕄) ⊢ MayWait (c : Thread nD τ) (.dma (dS k d)) () (owed c 7 7 7) := by
  rw [owed_done, MayWait_zero]; exact BI.affine

end Cert.KernelIdeal.Talk
-- ==== Proof.Talk.Steps.lean ====
module

public import proofs.«01_k».proof.Proof.Talk.Schedule

@[expose] public section

noncomputable section

/-!
# One step of each phase

The run of one device goes through five phases: the seven signals and the wait on the barrier, the
seven scattered blocks sent, their seven counterparts awaited, the same twice for the gathered blocks,
and the waits on the sends. The state of a phase after `n` of its seven steps is one assertion: what
the steps still to come need (`froms n`), and what those made have yielded (`upto n`).
-/

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (inp : Dev nD → Inputs F)

/-! ## Seven steps, part of them made -/

/-- What the steps from number `n` on hold. -/
def froms (n : ℕ) (Φ : Fin 7 → sProp 𝕄) : sProp 𝕄 := bigSep (Finset.univ.filter fun d : Fin 7 => n ≤ d.val) Φ
/-- What the steps before number `n` hold. -/
def upto (n : ℕ) (Φ : Fin 7 → sProp 𝕄) : sProp 𝕄 := bigSep (Finset.univ.filter fun d : Fin 7 => d.val < n) Φ

theorem froms_zero (Φ : Fin 7 → sProp 𝕄) : froms 0 Φ = bigSep Finset.univ Φ := by
  unfold froms; congr 1
theorem upto_seven (Φ : Fin 7 → sProp 𝕄) : upto 7 Φ = bigSep Finset.univ Φ := by
  unfold upto; congr 1
theorem upto_zero (Φ : Fin 7 → sProp 𝕄) : upto 0 Φ = iprop(emp) := by
  unfold upto; rw [show (Finset.univ.filter fun d : Fin 7 => d.val < 0) = ∅ from by decide, bigSep_empty]; rfl
theorem froms_step (Φ : Fin 7 → sProp 𝕄) {d : Fin 7} {n n' : ℕ} (hn : d.val = n) (hn' : n + 1 = n') :
    froms n Φ = iprop(Φ d ∗ froms n' Φ) := by
  subst hn hn'
  unfold froms
  rw [show (Finset.univ.filter fun e : Fin 7 => d.val ≤ e.val) = insert d (Finset.univ.filter fun e : Fin 7 => d.val + 1 ≤ e.val) from by
      revert d; decide]
  exact bigSep_insert (by simp)
theorem upto_step (Φ : Fin 7 → sProp 𝕄) {d : Fin 7} {n n' : ℕ} (hn : d.val = n) (hn' : n + 1 = n') :
    upto n' Φ = iprop(Φ d ∗ upto n Φ) := by
  subst hn hn'
  unfold upto
  rw [show (Finset.univ.filter fun e : Fin 7 => e.val < d.val + 1) = insert d (Finset.univ.filter fun e : Fin 7 => e.val < d.val) from by
      revert d; decide]
  exact bigSep_insert (by simp)

/-! ## The invariants -/

/-- Every cell of the talk keeps its schedule, at the names `K`. -/
def invs (K : GSem nD τ sig → ℕ) : sProp 𝕄 :=
  iprop((bigSep Finset.univ fun c : Dev nD => cellInv ER (talk inp) (K (barCell c)) (barCell c))
    ∗ (bigSep Finset.univ fun p : Dev nD × Fin 4 × Fin 7 => cellInv ER (talk inp) (K (dCell p.1 p.2.1 p.2.2)) (dCell p.1 p.2.1 p.2.2)))
instance invs_persistent (K : GSem nD τ sig → ℕ) : BI.Persistent (invs inp K) := by unfold invs; infer_instance

theorem inv_bar (K : GSem nD τ sig → ℕ) (c : Dev nD) : invs inp K ⊢ cellInv ER (talk inp) (K (barCell c)) (barCell c) := by
  exact sep_elim_left.trans (bigSep_elim (Finset.mem_univ c))
theorem inv_copy (K : GSem nD τ sig → ℕ) (c : Dev nD) (k : Fin 4) (d : Fin 7) :
    invs inp K ⊢ cellInv ER (talk inp) (K (dCell c k d)) (dCell c k d) := by
  exact sep_elim_right.trans (bigSep_elim (Φ := fun p : Dev nD × Fin 4 × Fin 7 =>
    cellInv ER (talk inp) (K (dCell p.1 p.2.1 p.2.2)) (dCell p.1 p.2.1 p.2.2)) (Finset.mem_univ (c, k, d)))

/-- What every step may use. -/
def ctx (K : GSem nD τ sig → ℕ) : sProp 𝕄 := iprop(invs inp K ∗ levAts L lv)
instance ctx_persistent (K : GSem nD τ sig → ℕ) : BI.Persistent (ctx inp K) := by unfold ctx; infer_instance

abbrev 𝒱₀ : Variants := Variants.none
/-- A thread owing `O`, whatever it has waited on. -/
def owing (c : Dev nD) (O : CellTallies nD τ sig Unit) : sProp 𝕄 := iprop(∃ W, owes (c : Thread nD τ) O W)

variable (K : GSem nD τ sig → ℕ) (c : Dev nD) {α : Type}

/-- The rest `p` of the run of device `c` ends in `Q`. -/
abbrev wpc (p : Prog (TpuEff nD τ sig (Elt F) Λ₀ .tc) α) (Q : α → sProp 𝕄) : sProp 𝕄 :=
  wp frame (wpE (defs₀ (F := F)) 𝒱₀ (c : Thread nD τ) none) Set.univ p Q

/-! ## The barrier -/

/-- What signal number `d` needs: the duty at the partner, and the two places the partner will write. -/
def barNeed (d : Fin 7) : sProp 𝕄 :=
  iprop(dutyTok ER (barCell (nb c d)) 0 (rev d) ∗ reached ER (barCell (nb c d)) 0
    ∗ (∃ f : FVec F S8x32x512 .f32, slotPt c (sl (rev d)) f) ∗ (∃ f : FVec F S256x512 .f32, agPt c (nb c d) fullShare f)
    ∗ reached ER (dCell c 1 (rev d)) 0 ∗ reached ER (dCell c 3 (rev d)) 0)

def BarSt (n : ℕ) : sProp 𝕄 := iprop(ctx inp K ∗ owing c (owed c n 0 0) ∗ froms n (barNeed (F := F) c))

theorem barPay_give (d : Fin 7) : iprop((∃ f : FVec F S8x32x512 .f32, slotPt c (sl (rev d)) f) ∗ (∃ f : FVec F S256x512 .f32, agPt c (nb c d) fullShare f)
    ∗ reached ER (dCell c 1 (rev d)) 0 ∗ reached ER (dCell c 3 (rev d)) 0) ⊢ (barPay (nb c d) (rev d) : sProp 𝕄) := by
  unfold barPay; rw [nb_nb_rev]

theorem bar_step (d : Fin 7) {n n' : ℕ} (hn : d.val = n) (hn' : n + 1 = n') {dev : Dev nD} (hdev : dev = nb c d)
    {sem : Sem sig} (hsem : sem = barrier0) {a : ℤ} (ha : a = ((1 : ℕ) : ℤ))
    {k : PUnit → Prog (TpuEff nD τ sig (Elt F) Λ₀ .tc) α} {Q : α → sProp 𝕄} :
    BarSt inp K c n ⊢ iprop((BarSt inp K c n' -∗ wpc c (k ⟨⟩) Q) -∗ wpc c (.op (.semSignal (Dev.tc dev) sem a) k) Q) := by
  subst hdev hsem ha
  unfold BarSt ctx owing
  rw [froms_step _ hn hn']
  subst hn hn'
  unfold barNeed
  iintro ⟨⟨#HI, #Hlev⟩, ⟨%W, HO⟩, ⟨Ht, #Hr, Hpay⟩, Hf⟩ Hk
  iapply (Rounds.wp_signal 𝒱₀ ER (talk inp) (c : Thread nD τ) none (dst := (nb c d : Thread nD τ)) (sem := barrier0) (r := 0) (d := rev d)
      (κ := K (barCell (nb c d))) (by rw [duties_bar]; exact Finset.mem_univ _) (amount_bar inp (nb c d) (rev d)) () (owed c (d.val + 1) 0 0)
      (owed_bar c d 0 0)) $$ [HO Ht Hpay]
  · isplitr; · iapply (inv_bar inp K (nb c d)); iexact HI
    isplitl [HO]; · iexact HO
    isplitl [Ht]; · iexact Ht
    isplitl [Hpay]
    · rw [payload_bar]; iapply (barPay_give c d); iexact Hpay
    · iexact Hr
  iintro HO
  iapply Hk
  isplitr; · isplitr <;> iassumption
  isplitl [HO]; · iexists W; iexact HO
  iexact Hf

theorem bar_wait {sem : Sem sig} (hsem : sem = barrier0) {a : ℤ} (ha : a = ((7 : ℕ) : ℤ))
    {k : PUnit → Prog (TpuEff nD τ sig (Elt F) Λ₀ .tc) α} {Q : α → sProp 𝕄} :
    iprop(BarSt inp K c 7 ∗ cred (tallyAt (barCell c) () 7) ∗ atPos ER (barCell c) 0 ∅ 0)
      ⊢ iprop(((ctx inp K ∗ owing c (owed c 7 0 0) ∗ atPos ER (barCell c) 1 ∅ 0 ∗ bigSep Finset.univ fun e => barPay c e) -∗ wpc c (k ⟨⟩) Q)
          -∗ wpc c (.op (.semWait sem a) k) Q) := by
  subst hsem ha
  unfold BarSt ctx owing
  iintro ⟨⟨⟨#HI, #Hlev⟩, ⟨%W, HO⟩, -⟩, Hc, Hat⟩ Hk
  iapply (Rounds.wp_wait_rest_token 𝒱₀ ER (talk inp) (c : Thread nD τ) none (κ := K (barCell c))
      (wpE_semWait_eq 𝒱₀ (c : Thread nD τ) none Set.univ) (Set.mem_univ _) () (O := owed c 7 0 0) (W := W) (R := 0) (m := 0) (T := ∅)
      ((Nat.zero_add 7).trans (expect_bar inp c).symm)) $$ [Hc HO Hat]
  · isplitr; · iapply (inv_bar inp K c); iexact HI
    isplitl [Hc]; · iexact Hc
    isplitl [HO]; · iexact HO
    isplitr; · iapply (mayWait_bar c); iexact Hlev
    iexact Hat
  iintro ⟨HO, Hat, -, Hpay⟩
  iapply Hk
  isplitr; · isplitr <;> iassumption
  isplitl [HO]; · iexists _; iexact HO
  isplitl [Hat]; · iexact Hat
  iapply (Entails.of_eq (rest_bar inp c)); iexact Hpay

/-! ## The blocks sent -/

/-- The duties a copy pays at its two cells. -/
def sendToks (k k' : Fin 4) (d : Fin 7) : sProp 𝕄 :=
  iprop(dutyTok ER (dCell c k d) 0 0 ∗ reached ER (dCell c k d) 0 ∗ dutyTok ER (dCell (nb c d) k' d) 0 0 ∗ reached ER (dCell (nb c d) k' d) 0)

/-- What scattered block `d` needs. -/
def rsNeed (d : Fin 7) : sProp 𝕄 :=
  iprop(sendToks c 0 1 d ∗ partPt c (nb c d) (part (inp c)) ∗ ∃ f : FVec F S8x32x512 .f32, slotPt (nb c d) (sl d) f)
/-- What gathered block `d` needs. -/
def agNeed (d : Fin 7) : sProp 𝕄 :=
  iprop(sendToks c 2 3 d ∗ agPt c c (agShare d) (gathered inp) ∗ ∃ f : FVec F S256x512 .f32, agPt (nb c d) c fullShare f)
/-- The right to wait for a copy. -/
def sent (k : Fin 4) (d : Fin 7) : sProp 𝕄 := cred (tallyAt (dCell c k d) () N)

def RsSt (n : ℕ) : sProp 𝕄 := iprop(ctx inp K ∗ owing c (owed c 7 n 0) ∗ froms n (rsNeed inp c) ∗ upto n (sent (F := F) c 0))
def AgSt (n : ℕ) : sProp 𝕄 := iprop(ctx inp K ∗ owing c (owed c 7 7 n) ∗ froms n (agNeed inp c) ∗ upto n (sent (F := F) c 2))

theorem rs_send (d : Fin 7) {n n' : ℕ} (hn : d.val = n) (hn' : n + 1 = n') {dev : Dev nD} (hdev : dev = nb c d)
    {off : Fin 2 → ℕ} (hoff : off = blkOff (nb c d)) {inb} {j : Fin 8} (hj : j = sl d) {ss rs : DmaSem sig} (hss : ss = dS 0 d) (hrs : rs = dS 1 d)
    {h1 h2 h3} {k : PUnit → Prog (TpuEff nD τ sig (Elt F) Λ₀ .tc) α} {Q : α → sProp 𝕄} :
    RsSt inp K c n ⊢ iprop((RsSt inp K c n' -∗ wpc c (k ⟨⟩) Q)
      -∗ wpc c (.op (.enqueueDma ((Memref.whole cc0_scratch0).slice (Rect.unit (s := S256x512) off S32x512.size inb) (fun _ => rfl))
          (.remote (Dev.tc dev) (slotM j) (.dma ss)) (.dma rs) h1 h2 h3) k) Q) := by
  subst hdev hoff hj hss hrs
  unfold RsSt ctx owing
  rw [froms_step _ hn hn', upto_step _ hn hn']
  subst hn hn'
  unfold rsNeed sendToks
  iintro ⟨⟨#HI, #Hlev⟩, ⟨%W, HO⟩, ⟨⟨⟨Ht1, #Hr1, Ht2, #Hr2⟩, Hsrc, ⟨%fd, Hdst⟩⟩, Hf⟩, Hu⟩ Hk
  iapply (Rounds.wp_send_pointsTo 𝒱₀ ER (talk inp) (c : Thread nD τ) none (c' := (nb c d : Thread nD τ)) (src := partM (nb c d)) (dst := slotM (sl d))
      (sS := .dma (dS 0 d)) (sem := .dma (dS 1 d)) (q := fullShare) (fs := part (inp c)) (κ₁ := K (dCell c 0 d)) (κ₂ := K (dCell (nb c d) 1 d))
      (r₁ := 0) (r₂ := 0) (d₁ := 0) (d₂ := 0) (fd := fd)
      (by rw [duties_copy]; exact Finset.mem_singleton_self _) (by rw [duties_copy]; exact Finset.mem_singleton_self _)
      () () N (credit_slot (sl d)) (amount_copy inp c 0 d 0) (amount_copy inp (nb c d) 1 d 0) (owed c 7 (d.val + 1) 0) (owed_rs c d 7 0) (W := W)
      (by rw [payload_copy]; exact BI.Entails.refl _)
      (by rw [payload_copy]; exact Entails.of_eq (pointsTo_congr (rs_copy inp c d fd)))) $$ [Hsrc Hdst HO Ht1 Ht2]
  · isplitr; · iapply (inv_copy inp K c 0 d); iexact HI
    isplitr; · iapply (inv_copy inp K (nb c d) 1 d); iexact HI
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply Hk
  isplitr; · isplitr <;> iassumption
  isplitl [HO]; · iexists W; iexact HO
  isplitl [Hf]; · iexact Hf
  isplitl [Hc]; · unfold sent; iexact Hc
  iexact Hu

theorem ag_send (d : Fin 7) {n n' : ℕ} (hn : d.val = n) (hn' : n + 1 = n') {dev : Dev nD} (hdev : dev = nb c d)
    {off : Fin 2 → ℕ} (hoff : off = blkOff c) {inb} {ss rs : DmaSem sig} (hss : ss = dS 2 d) (hrs : rs = dS 3 d)
    {h1 h2 h3} {k : PUnit → Prog (TpuEff nD τ sig (Elt F) Λ₀ .tc) α} {Q : α → sProp 𝕄} :
    AgSt inp K c n ⊢ iprop((AgSt inp K c n' -∗ wpc c (k ⟨⟩) Q)
      -∗ wpc c (.op (.enqueueDma ((Memref.whole cc0_scratch2).slice (Rect.unit (s := S256x512) off S32x512.size inb) (fun _ => rfl))
          (.remote (Dev.tc dev) ((Memref.whole cc0_scratch2).slice (Rect.unit (s := S256x512) off S32x512.size inb) (fun _ => rfl)) (.dma ss))
          (.dma rs) h1 h2 h3) k) Q) := by
  subst hdev hoff hss hrs
  unfold AgSt ctx owing
  rw [froms_step _ hn hn', upto_step _ hn hn']
  subst hn hn'
  unfold agNeed sendToks
  iintro ⟨⟨#HI, #Hlev⟩, ⟨%W, HO⟩, ⟨⟨⟨Ht1, #Hr1, Ht2, #Hr2⟩, Hsrc, ⟨%fd, Hdst⟩⟩, Hf⟩, Hu⟩ Hk
  iapply (Rounds.wp_send_pointsTo 𝒱₀ ER (talk inp) (c : Thread nD τ) none (c' := (nb c d : Thread nD τ)) (src := agM c) (dst := agM c)
      (sS := .dma (dS 2 d)) (sem := .dma (dS 3 d)) (q := agShare d) (fs := gathered inp) (κ₁ := K (dCell c 2 d)) (κ₂ := K (dCell (nb c d) 3 d))
      (r₁ := 0) (r₂ := 0) (d₁ := 0) (d₂ := 0) (fd := fd)
      (by rw [duties_copy]; exact Finset.mem_singleton_self _) (by rw [duties_copy]; exact Finset.mem_singleton_self _)
      () () N (credit_ag c) (amount_copy inp c 2 d 0) (amount_copy inp (nb c d) 3 d 0) (owed c 7 7 (d.val + 1)) (owed_ag c d 7 7) (W := W)
      (by rw [payload_copy]; exact BI.Entails.refl _)
      (by rw [payload_copy, pointsTo_congr (ag_copy inp c fd)]; unfold copyPay; rw [pv_nb])) $$ [Hsrc Hdst HO Ht1 Ht2]
  · isplitr; · iapply (inv_copy inp K c 2 d); iexact HI
    isplitr; · iapply (inv_copy inp K (nb c d) 3 d); iexact HI
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply Hk
  isplitr; · isplitr <;> iassumption
  isplitl [HO]; · iexists W; iexact HO
  isplitl [Hf]; · iexact Hf
  isplitl [Hc]; · unfold sent; iexact Hc
  iexact Hu

/-! ## The waits -/

/-- What the wait for copy `d` of array `k` needs, and what it leaves. -/
def waitNeed (k : Fin 4) (d : Fin 7) : sProp 𝕄 := iprop(sent (F := F) c k d ∗ atPos ER (dCell c k d) 0 ∅ 0)
def waitGot (k : Fin 4) (d : Fin 7) : sProp 𝕄 := iprop(copyPay inp c k d ∗ atPos ER (dCell c k d) 1 ∅ 0)

def WaitSt (k : Fin 4) (O : CellTallies nD τ sig Unit) (n : ℕ) : sProp 𝕄 :=
  iprop(ctx inp K ∗ owing c O ∗ froms n (waitNeed (F := F) c k) ∗ upto n (waitGot inp c k))

theorem copy_wait (g : Fin 4) (O : CellTallies nD τ sig Unit) (d : Fin 7)
    (hmay : (levAts L lv : sProp 𝕄) ⊢ MayWait (c : Thread nD τ) (.dma (dS g d)) () O)
    {n n' : ℕ} (hn : d.val = n) (hn' : n + 1 = n') {sem : DmaSem sig} (hsem : sem = dS g d)
    {s : Shape} {e : EltTy} {cs : Space} {src : Memref sig .tc cs s e} {dst : Memref sig .tc .vmem S32x512 .f32}
    {h1 h2} {k : PUnit → Prog (TpuEff nD τ sig (Elt F) Λ₀ .tc) α} {Q : α → sProp 𝕄} :
    WaitSt inp K c g O n ⊢ iprop((WaitSt inp K c g O n' -∗ wpc c (k ⟨⟩) Q) -∗ wpc c (.op (.waitDma2 sem src dst h1 h2) k) Q) := by
  subst hsem
  unfold WaitSt ctx owing
  rw [froms_step _ hn hn', upto_step _ hn hn']
  unfold waitNeed waitGot sent
  iintro ⟨⟨#HI, #Hlev⟩, ⟨%W, HO⟩, ⟨⟨Hc, Hat⟩, Hf⟩, Hu⟩ Hk
  iapply (Rounds.wp_wait_rest_token 𝒱₀ ER (talk inp) (c : Thread nD τ) none (κ := K (dCell c g d))
      (wpE_waitDma2_eq (src := src) (dst := dst) 𝒱₀ (c : Thread nD τ) none Set.univ) (Set.mem_univ _) () (O := O) (W := W) (R := 0) (m := 0) (T := ∅)
      ((Nat.zero_add _).trans ((credit_any dst).trans (expect_copy inp c g d).symm))) $$ [Hc HO Hat]
  · isplitr; · iapply (inv_copy inp K c g d); iexact HI
    isplitl [Hc]; · rw [credit_any]; iexact Hc
    isplitl [HO]; · iexact HO
    isplitr; · iapply hmay; iexact Hlev
    iexact Hat
  iintro ⟨HO, Hat, -, Hpay⟩
  iapply Hk
  isplitr; · isplitr <;> iassumption
  isplitl [HO]; · iexists _; iexact HO
  isplitl [Hf]; · iexact Hf
  isplitr [Hu]
  · isplitl [Hpay]; · iapply (Entails.of_eq (rest_copy inp c g d)); iexact Hpay
    iexact Hat
  iexact Hu

/-- The wait for scattered block `d`, and the load of the slot it landed in. -/
theorem rs_wait_load (d : Fin 7) {n n' : ℕ} (hn : d.val = n) (hn' : n + 1 = n') {sem : DmaSem sig} (hsem : sem = dS 1 d)
    {s : Shape} {e : EltTy} {cs : Space} {src : Memref sig .tc cs s e} {dst : Memref sig .tc .vmem S32x512 .f32}
    {j : Fin 8} (hj : j = sl d)
    {h1 h2 h3} {k : Vec F S1x32x512 .f32 → Prog (TpuEff nD τ sig (Elt F) Λ₀ .tc) α} {Q : α → sProp 𝕄} :
    WaitSt inp K c 1 (owed c 7 7 0) n
      ⊢ iprop((WaitSt inp K c 1 (owed c 7 7 0) n' -∗ wpc c (k (slotRows inp c (sl d))) Q)
        -∗ wpc c (.op (.waitDma2 sem src dst h1 h2) fun _ => .op (.load (Memref.whole cc0_scratch1) (slotR j).toLoadRect h3) k) Q) := by
  subst hj
  iintro Hst Hk
  iapply (copy_wait inp K c 1 (owed c 7 7 0) d (mayWait_rs c d) hn hn' hsem) $$ Hst
  iintro Hst
  unfold WaitSt
  rw [upto_step _ hn hn']
  unfold waitGot copyPay
  icases Hst with ⟨Hctx, HO, Hf, ⟨Hs, Hat⟩, Hu⟩
  iapply (wp_load_rect 𝒱₀ (c : Thread nD τ) none Set.univ (m := Memref.whole cc0_scratch1) (r := slotR (sl d)) (S := (slotM (sl d)).view.set)
    (by rw [slot_set]; exact (View.set_slice_whole ..).subset)) $$ Hs
  iintro Hs
  iapply Hk
  isplitl [Hctx]; · iexact Hctx
  isplitl [HO]; · iexact HO
  isplitl [Hf]; · iexact Hf
  isplitr [Hu]
  · isplitl [Hs]; · iexact Hs
    iexact Hat
  iexact Hu

end Cert.KernelIdeal.Talk
-- ==== Proof.Talk.Pieces.lean ====
module

public import proofs.«01_k».proof.Proof.Talk.Steps

@[expose] public section

noncomputable section

/-!
# Cutting the buffers and joining them again

Between two phases of the run the buffers are cut along the blocks the copies move, and joined when
every copy has been waited for.
-/

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices other than one -/

theorem others_nb (c : Dev nD) : Finset.univ.erase c = (Finset.univ : Finset (Fin 7)).map ⟨nb c, nb_inj c⟩ := by revert c; decide
theorem pv_inj (c : Dev nD) : Function.Injective (pv c) := by
  intro d e h
  have h' : nb c (rev d) = nb c (rev e) := by rw [nb_rev, nb_rev]; exact h
  have h2 := congrArg rev (nb_inj c h')
  rwa [rev_rev, rev_rev] at h2
theorem others_pv (c : Dev nD) : Finset.univ.erase c = (Finset.univ : Finset (Fin 7)).map ⟨pv c, pv_inj c⟩ := by revert c; decide

theorem devs_nb (c : Dev nD) (Φ : Dev nD → sProp 𝕄) :
    bigSep Finset.univ Φ = iprop(Φ c ∗ bigSep Finset.univ fun d : Fin 7 => Φ (nb c d)) := by
  rw [bigSep_univ_at Φ c, others_nb c, bigSep_map]; rfl
theorem devs_pv (c : Dev nD) (Φ : Dev nD → sProp 𝕄) :
    bigSep Finset.univ Φ = iprop(Φ c ∗ bigSep Finset.univ fun d : Fin 7 => Φ (pv c d)) := by
  rw [bigSep_univ_at Φ c, others_pv c, bigSep_map]; rfl
theorem slots_split (Φ : Fin 8 → sProp 𝕄) :
    bigSep Finset.univ Φ = iprop(Φ 0 ∗ bigSep Finset.univ fun d : Fin 7 => Φ (sl d)) := by
  rw [bigSep_univ_at Φ 0, show Finset.univ.erase (0 : Fin 8) = (Finset.univ : Finset (Fin 7)).map ⟨sl, Fin.succ_injective 7⟩ from by decide, bigSep_map]; rfl

/-! ## Whole buffers and their pieces -/

/-- All of buffer `b` of device `c`. -/
abbrev allPt (c : Dev nD) (b : Ref sig .tc) (f : Buf (Elt F) ((c : Thread nD τ).loc b)) : sProp 𝕄 :=
  ((c : Thread nD τ).loc b) ↦{fullShare} f

/-- A buffer is its pieces, when they are disjoint and every element lies in one. -/
theorem cut {T : Type} [Fintype T] [DecidableEq T] {ℓ : Loc nD τ sig} (K : T → Finset (Idx ℓ)) (f : Buf (Elt F) ℓ)
    (hd : ∀ t t', t ≠ t' → Disjoint (K t) (K t')) (hc : ∀ i, ∃ t, i ∈ K t) :
    (ℓ ↦{fullShare} f : sProp 𝕄) = bigSep Finset.univ fun t => ℓ ↦[K t]{fullShare} f := by
  rw [← pointsTo_biUnion Finset.univ K (fun t _ t' _ h => hd t t' h)]
  congr 1
  exact (Finset.eq_univ_of_forall fun i => Finset.mem_biUnion.mpr ((hc i).imp fun t h => ⟨Finset.mem_univ _, h⟩)).symm

theorem part_apart : ∀ j k : Dev nD, j ≠ k → Disjoint (partM j).view.set (partM k).view.set :=
  fun j k h => by rw [part_set, part_set]; exact blk_disjoint j k h
theorem part_all : ∀ i : S256x512.Idx, ∃ j, i ∈ (partM j).view.set :=
  fun i => ⟨blkOf i, by rw [part_set]; exact (mem_blk _ i).mpr rfl⟩
theorem part_pieces (c : Dev nD) (f : FVec F S256x512 .f32) :
    (allPt c cc0_scratch0 f : sProp 𝕄) = bigSep Finset.univ fun j : Dev nD => partPt c j f :=
  cut (ℓ := (c : Thread nD τ).loc cc0_scratch0) (fun j : Dev nD => (partM j).view.set) f part_apart part_all

theorem ag_apart : ∀ j k : Dev nD, j ≠ k → Disjoint (agM j).view.set (agM k).view.set :=
  fun j k h => by rw [ag_set, ag_set]; exact blk_disjoint j k h
theorem ag_all : ∀ i : S256x512.Idx, ∃ j, i ∈ (agM j).view.set :=
  fun i => ⟨blkOf i, by rw [ag_set]; exact (mem_blk _ i).mpr rfl⟩
theorem ag_pieces (c : Dev nD) (f : FVec F S256x512 .f32) :
    (allPt c cc0_scratch2 f : sProp 𝕄) = bigSep Finset.univ fun j : Dev nD => agPt c j fullShare f :=
  cut (ℓ := (c : Thread nD τ).loc cc0_scratch2) (fun j : Dev nD => (agM j).view.set) f ag_apart ag_all

theorem slot_apart : ∀ j k : Fin 8, j ≠ k → Disjoint (slotM j).view.set (slotM k).view.set :=
  fun j k h => by rw [slot_set, slot_set]; exact slot_disjoint j k h
theorem slot_all : ∀ i : S8x32x512.Idx, ∃ j, i ∈ (slotM j).view.set :=
  fun i => ⟨i 0, (Finset.ext_iff.mp (slot_set (i 0)) i).mpr ((mem_slot _ i).mpr rfl)⟩
theorem slot_pieces (c : Dev nD) (f : FVec F S8x32x512 .f32) :
    (allPt c cc0_scratch1 f : sProp 𝕄) = bigSep Finset.univ fun j : Fin 8 => slotPt c j f :=
  cut (ℓ := (c : Thread nD τ).loc cc0_scratch1) (fun j : Fin 8 => (slotM j).view.set) f slot_apart slot_all

/-- The slots, the first at any contents and the others at one array's, are the whole scratch at some contents. -/
theorem slots_join (c : Dev nD) (f g : FVec F S8x32x512 .f32) :
    iprop(slotPt c 0 f ∗ bigSep Finset.univ fun d : Fin 7 => slotPt c (sl d) g) ⊢ (iprop(∃ h, allPt c cc0_scratch1 h) : sProp 𝕄) := by
  let h : FVec F S8x32x512 .f32 := fun i => if (i 0).val = 0 then f i else g i
  have e0 : (slotPt c 0 f : sProp 𝕄) = slotPt c 0 h := by
    refine pointsTo_congr fun i hi => ?_
    rw [slot_set] at hi
    exact (if_pos ((mem_slot 0 i).mp hi)).symm
  have e1 : ∀ d : Fin 7, (slotPt c (sl d) g : sProp 𝕄) = slotPt c (sl d) h := fun d => by
    refine pointsTo_congr fun i hi => ?_
    rw [slot_set] at hi
    exact (if_neg fun h0 => absurd (((mem_slot (sl d) i).mp hi).symm.trans h0) (Nat.succ_ne_zero _)).symm
  rw [e0, bigSep_congr (s := Finset.univ) fun d _ => e1 d]
  iintro H
  iexists h
  iapply (Entails.of_eq (slot_pieces c h).symm)
  iapply (Entails.of_eq (slots_split _).symm)
  iexact H

variable (inp : Dev nD → Inputs F) (c : Dev nD)

/-! ## From the barrier to the sends -/

/-- The duties that copies number `d` of either exchange will pay. -/
def sendPre (d : Fin 7) : sProp 𝕄 :=
  iprop(dutyTok ER (dCell c 0 d) 0 0 ∗ reached ER (dCell c 0 d) 0 ∗ dutyTok ER (dCell (nb c d) 1 d) 0 0
    ∗ dutyTok ER (dCell c 2 d) 0 0 ∗ reached ER (dCell c 2 d) 0 ∗ dutyTok ER (dCell (nb c d) 3 d) 0 0)
/-- What gathered block `d` needs, but its own rows. -/
def agHalf (d : Fin 7) : sProp 𝕄 :=
  iprop(sendToks c 2 3 d ∗ ∃ f : FVec F S256x512 .f32, agPt (nb c d) c fullShare f)

theorem after_barrier_one (d : Fin 7) :
    iprop(barPay c d ∗ sendPre c d ∗ partPt c (nb c d) (part (inp c))) ⊢ (iprop(rsNeed inp c d ∗ agHalf c d) : sProp 𝕄) := by
  unfold barPay sendPre rsNeed agHalf sendToks
  iintro ⟨⟨Hs, Ha, Hr1, Hr3⟩, ⟨Hd0, Hr0, Hd1, Hd2, Hr2, Hd3⟩, Hp⟩
  isplitl [Hs Hr1 Hd0 Hr0 Hd1 Hp]
  · isplitl [Hr1 Hd0 Hr0 Hd1]
    · isplitl [Hd0]; · iexact Hd0
      isplitl [Hr0]; · iexact Hr0
      isplitl [Hd1]; · iexact Hd1
      iexact Hr1
    isplitl [Hp]; · iexact Hp
    iexact Hs
  · isplitr [Ha]
    · isplitl [Hd2]; · iexact Hd2
      isplitl [Hr2]; · iexact Hr2
      isplitl [Hd3]; · iexact Hd3
      iexact Hr3
    iexact Ha

/-- What the sends need, from what the barrier gave and the stored partial sums; the device keeps its own block. -/
theorem after_barrier :
    iprop((bigSep Finset.univ fun d => barPay c d) ∗ (bigSep Finset.univ fun d => sendPre c d) ∗ allPt c cc0_scratch0 (part (inp c)))
      ⊢ (iprop(froms 0 (rsNeed inp c) ∗ (bigSep Finset.univ fun d => agHalf c d) ∗ partPt c c (part (inp c))) : sProp 𝕄) := by
  rw [part_pieces, devs_nb c, froms_zero]
  iintro ⟨Hb, Hs, Hown, Hp⟩
  icombine Hb Hs Hp as H
  ihave H := ((Entails.of_eq (show iprop((bigSep Finset.univ fun d => barPay c d) ∗ (bigSep Finset.univ fun d => sendPre c d)
      ∗ (bigSep Finset.univ fun d : Fin 7 => partPt c (nb c d) (part (inp c))))
        = (bigSep Finset.univ fun d => iprop(barPay c d ∗ sendPre c d ∗ partPt c (nb c d) (part (inp c))) : sProp 𝕄) from by
      rw [bigSep_sep', bigSep_sep'])).trans ((bigSep_mono fun d _ => after_barrier_one inp c d).trans (Entails.of_eq (bigSep_sep' _ _ _)))) $$ H
  icases H with ⟨H1, H2⟩
  isplitl [H1]; · iexact H1
  isplitl [H2]; · iexact H2
  iexact Hown

theorem after_store_one (d : Fin 7) :
    iprop(agHalf c d ∗ agPt c c (agShare d) (gathered inp)) ⊢ (agNeed inp c d : sProp 𝕄) := by
  unfold agHalf agNeed
  iintro ⟨⟨H1, H2⟩, H3⟩
  isplitl [H1]; · iexact H1
  isplitl [H3]; · iexact H3
  iexact H2

/-- What the gathered blocks' sends need, once the device has its own rows. -/
theorem after_store :
    iprop((bigSep Finset.univ fun d => agHalf c d) ∗ agPt c c fullShare (gathered inp)) ⊢ (froms 0 (agNeed inp c) : sProp 𝕄) := by
  have hd : (agPt c c fullShare (gathered inp) : sProp 𝕄) = bigSep Finset.univ fun d : Fin 7 => agPt c c (agShare d) (gathered inp) :=
    Transfers.pointsTo_deal Finset.univ ⟨0, Finset.mem_univ _⟩ fullShare
  rw [froms_zero, hd]
  exact (Entails.of_eq (bigSep_sep' _ _ _).symm).trans (bigSep_mono fun d _ => after_store_one inp c d)

/-! ## The waits -/

theorem wait_start (k : Fin 4) :
    iprop((bigSep Finset.univ fun d => sent (F := F) c k d) ∗ bigSep Finset.univ fun d : Fin 7 => atPos ER (dCell c k d) 0 ∅ 0)
      ⊢ (iprop(froms 0 (waitNeed (F := F) c k) ∗ upto 0 (waitGot inp c k)) : sProp 𝕄) := by
  rw [froms_zero, upto_zero]
  iintro H
  isplitl [H]
  · iapply (Entails.of_eq (bigSep_sep' _ _ _).symm); iexact H
  · iempintro

theorem wait_end (k : Fin 4) :
    (upto 7 (waitGot inp c k) : sProp 𝕄) ⊢ iprop((bigSep Finset.univ fun d => copyPay inp c k d) ∗ bigSep Finset.univ fun d : Fin 7 => atPos ER (dCell c k d) 1 ∅ 0) := by
  rw [upto_seven]
  exact Entails.of_eq (bigSep_sep' _ _ _)

/-- The gathered array whole: the device's own rows, read by its seven copies, and the rows that arrived. -/
theorem ag_join :
    iprop((bigSep Finset.univ fun d => copyPay inp c 2 d) ∗ bigSep Finset.univ fun d => copyPay inp c 3 d)
      ⊢ (allPt c cc0_scratch2 (gathered inp) : sProp 𝕄) := by
  have hd : (agPt c c fullShare (gathered inp) : sProp 𝕄) = bigSep Finset.univ fun d : Fin 7 => agPt c c (agShare d) (gathered inp) :=
    Transfers.pointsTo_deal Finset.univ ⟨0, Finset.mem_univ _⟩ fullShare
  rw [ag_pieces, devs_pv c, hd]
  exact Entails.refl _

/-- The partial sums whole: the device's own block and the seven that were sent. -/
theorem part_join :
    iprop((bigSep Finset.univ fun d => copyPay inp c 0 d) ∗ partPt c c (part (inp c)))
      ⊢ (allPt c cc0_scratch0 (part (inp c)) : sProp 𝕄) := by
  rw [part_pieces, devs_nb c]
  iintro ⟨H1, H2⟩
  isplitl [H2]; · iexact H2
  iexact H1

/-- The landing scratch whole, at some contents. -/
theorem slot_join :
    iprop((∃ f : FVec F S8x32x512 .f32, slotPt c 0 f) ∗ bigSep Finset.univ fun d => copyPay inp c 1 d)
      ⊢ (iprop(∃ h, allPt c cc0_scratch1 h) : sProp 𝕄) := by
  iintro ⟨⟨%f, H1⟩, H2⟩
  iapply (slots_join c f (landed inp c))
  isplitl [H1]; · iexact H1
  iexact H2

end Cert.KernelIdeal.Talk
-- ==== Proof.Talk.Body.lean ====
module

public import proofs.«01_k».proof.Proof.Talk.Pieces

@[expose] public section

noncomputable section

/-!
# The run of one device

One run of the kernel's body, at any device `c`. It signals the seven others and waits for their seven
signals, computes its partial sums, sends seven blocks of them, adds its own rows to the seven blocks it
receives, sends the sum to the seven others, waits for their sums and for its own fourteen copies, and
stores the result.
-/

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (inp : Dev nD → Inputs F)

/-- The kernel's body on the staging buffers, scratch buffers and semaphores it is called with. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6

variable (K : GSem nD τ sig → ℕ) (c : Dev nD)

/-! ## Loads and stores -/

section Access
variable {α : Type}

/-- A load from a buffer the device holds whole. -/
theorem win_load {cs : CoreSpace} {s : Shape} {e : EltTy} (m : Memref sig .tc cs s e) (f : Buf (Elt F) (m.view.loc (c : Thread nD τ)))
    {r : LoadRect s} {hl : m.view.LoadsAt r}
    {k : (r.shape.Idx → Elt F e) → Prog (TpuEff nD τ sig (Elt F) Λ₀ .tc) α} {Q : α → sProp 𝕄} :
    (m.view.loc (c : Thread nD τ) ↦{fullShare} f)
      ⊢ iprop(((m.view.loc (c : Thread nD τ) ↦{fullShare} f) -∗ wpc c (k (m.view.readAt (Elt F) r f)) Q) -∗ wpc c (.op (.load m r hl) k) Q) :=
  wp_load 𝒱₀ (c : Thread nD τ) none Set.univ (m := m) (Finset.subset_univ _)

/-- A store to a buffer the device holds whole, by the contents `g` it leaves. -/
theorem win_store {cs : CoreSpace} {s : Shape} {e : EltTy} (m : Memref sig .tc cs s e) (r : Rect s) {f g : Buf (Elt F) ((m.access r).loc (c : Thread nD τ))}
    {w : r.shape.Idx → Elt F e} (hg : (m.access r).write (Elt F) f w Finset.univ = g) {hx hm}
    {k : PUnit → Prog (TpuEff nD τ sig (Elt F) Λ₀ .tc) α} {Q : α → sProp 𝕄} :
    ((m.access r).loc (c : Thread nD τ) ↦{fullShare} f)
      ⊢ iprop((((m.access r).loc (c : Thread nD τ) ↦{fullShare} g) -∗ wpc c (k ⟨⟩) Q) -∗ wpc c (.op (.store m r w Finset.univ hx hm) k) Q) := by
  subst hg
  exact wp_store 𝒱₀ (c : Thread nD τ) none Set.univ (m := m) (r := r) (Finset.subset_univ _)

/-- The load of the device's own rows of its partial sums. -/
theorem own_load (f : FVec F S256x512 .f32) {off : Fin 2 → ℕ} (hoff : off = blkOff c) {inb} {hl}
    {k : Vec F S32x512 .f32 → Prog (TpuEff nD τ sig (Elt F) Λ₀ .tc) α} {Q : α → sProp 𝕄} :
    partPt c c f ⊢ iprop((partPt c c f -∗ wpc c (k ((Memref.whole cc0_scratch0).view.readAt (Elt F) (blkR c).toLoadRect f)) Q)
      -∗ wpc c (.op (.load (Memref.whole cc0_scratch0) (Rect.unit (s := S256x512) off S32x512.size inb).toLoadRect hl) k) Q) := by
  subst hoff
  exact wp_load_rect 𝒱₀ (c : Thread nD τ) none Set.univ (m := Memref.whole cc0_scratch0) (r := blkR c) (S := (partM c).view.set)
    (by rw [part_set])

/-- The load of the device's own rows of the gathered array: its value is not used. -/
theorem old_load (f : FVec F S256x512 .f32) {off : Fin 2 → ℕ} (hoff : off = blkOff c) {inb} {hl}
    {k : Vec F S32x512 .f32 → Prog (TpuEff nD τ sig (Elt F) Λ₀ .tc) α} {Q : α → sProp 𝕄} :
    agPt c c fullShare f ⊢ iprop((agPt c c fullShare f -∗ wpc c (k ((Memref.whole cc0_scratch2).view.readAt (Elt F) (blkR c).toLoadRect f)) Q)
      -∗ wpc c (.op (.load (Memref.whole cc0_scratch2) (Rect.unit (s := S256x512) off S32x512.size inb).toLoadRect hl) k) Q) := by
  subst hoff
  exact wp_load_rect 𝒱₀ (c : Thread nD τ) none Set.univ (m := Memref.whole cc0_scratch2) (r := blkR c) (S := (agM c).view.set)
    (by rw [ag_set])

/-- The store of the device's block of the result. -/
theorem own_store (f : FVec F S256x512 .f32) {off : Fin 2 → ℕ} (hoff : off = blkOff c) {inb} {w : Vec F S32x512 .f32} (hw : w = total inp c)
    {hx hm} {k : PUnit → Prog (TpuEff nD τ sig (Elt F) Λ₀ .tc) α} {Q : α → sProp 𝕄} :
    agPt c c fullShare f ⊢ iprop((agPt c c fullShare (gathered inp) -∗ wpc c (k ⟨⟩) Q)
      -∗ wpc c (.op (.store (Memref.whole cc0_scratch2) (Rect.unit (s := S256x512) off S32x512.size inb) w Finset.univ hx hm) k) Q) := by
  subst hoff hw
  have e : (agPt c c fullShare (((Memref.whole cc0_scratch2).access (blkR c)).write (Elt F) f (total inp c) Finset.univ) : sProp 𝕄)
      = agPt c c fullShare (gathered inp) := pointsTo_congr (ag_store inp c f)
  rw [← e]
  exact wp_store 𝒱₀ (c : Thread nD τ) none Set.univ (m := Memref.whole cc0_scratch2) (r := blkR c) (S := (agM c).view.set)
    (by rw [ag_set]; exact (View.set_slice_whole cc0_scratch2 (blkR c)).subset)

/-- The store of the partial sums. -/
theorem sums_store (f : FVec F S256x512 .f32) {w : Vec F S256x512 .f32} (hw : w = part (inp c))
    {hx hm} {k : PUnit → Prog (TpuEff nD τ sig (Elt F) Λ₀ .tc) α} {Q : α → sProp 𝕄} :
    allPt c cc0_scratch0 f ⊢ iprop((allPt c cc0_scratch0 (part (inp c)) -∗ wpc c (k ⟨⟩) Q)
      -∗ wpc c (.op (.store (Memref.whole cc0_scratch0) (Rect.unit (s := S256x512) ![0, 0] S256x512.size inb_S256x512_S256x512_0_0) w Finset.univ hx hm) k) Q) := by
  subst hw
  exact win_store c (Memref.whole cc0_scratch0) (Rect.unit (s := S256x512) ![0, 0] S256x512.size inb_S256x512_S256x512_0_0) (part_store f _)

/-- The store of the result. -/
theorem out_store (f : FVec F S2x128x512 .f32) {w : Vec F S2x128x512 .f32} (hw : w = result inp)
    {hx hm} {k : PUnit → Prog (TpuEff nD τ sig (Elt F) Λ₀ .tc) α} {Q : α → sProp 𝕄} :
    allPt c cc0_stg5_0 f ⊢ iprop((allPt c cc0_stg5_0 (result inp) -∗ wpc c (k ⟨⟩) Q)
      -∗ wpc c (.op (.store (Memref.whole cc0_stg5_0) (Rect.unit (s := S2x128x512) ![0, 0, 0] S2x128x512.size inb_S2x128x512_S2x128x512_0_0_0) w Finset.univ hx hm) k) Q) := by
  subst hw
  exact win_store c (Memref.whole cc0_stg5_0) (Rect.unit (s := S2x128x512) ![0, 0, 0] S2x128x512.size inb_S2x128x512_S2x128x512_0_0_0) (result_store f _)

end Access

/-! ## Before and after -/

/-- The five staged arrays. -/
def staged : sProp 𝕄 :=
  iprop(allPt c cc0_stg0_0 (inp c).x ∗ allPt c cc0_stg1_0 (inp c).wq ∗ allPt c cc0_stg2_0 (inp c).k ∗ allPt c cc0_stg3_0 (inp c).v
    ∗ allPt c cc0_stg4_0 (inp c).wo)
/-- Every copy cell of the device, at round `r`. -/
def places (r : ℕ) (k : Fin 4) : sProp 𝕄 := bigSep Finset.univ fun d : Fin 7 => atPos ER (dCell c k d) r ∅ 0

/-- What the run starts from, beside the staged arrays and the result's buffer. -/
def runPre : sProp 𝕄 :=
  iprop(BarSt inp K c 0 ∗ cred (tallyAt (barCell c) () 7) ∗ atPos ER (barCell c) 0 ∅ 0
    ∗ (bigSep Finset.univ fun d => sendPre c d)
    ∗ (bigSep Finset.univ fun d => sent (F := F) c 1 d) ∗ (bigSep Finset.univ fun d => sent (F := F) c 3 d)
    ∗ (places c 0 0 ∗ places c 0 1 ∗ places c 0 2 ∗ places c 0 3)
    ∗ (∃ f, allPt c cc0_scratch0 f) ∗ (∃ f : FVec F S8x32x512 .f32, slotPt c 0 f) ∗ ∃ f : FVec F S256x512 .f32, agPt c c fullShare f)
/-- What the run ends with, beside the staged arrays and the result. -/
def runPost : sProp 𝕄 :=
  iprop(ctx inp K ∗ owing c 0 ∗ atPos ER (barCell c) 1 ∅ 0 ∗ (places c 1 0 ∗ places c 1 1 ∗ places c 1 2 ∗ places c 1 3)
    ∗ (∃ f, allPt c cc0_scratch0 f) ∗ (∃ f, allPt c cc0_scratch1 f) ∗ ∃ f, allPt c cc0_scratch2 f)

/-! ## The run -/

set_option maxHeartbeats 4000000 in
theorem body_run (f₅ : FVec F S2x128x512 .f32) (Q : PUnit → sProp 𝕄) :
    iprop(runPre inp K c ∗ staged inp c ∗ allPt c cc0_stg5_0 f₅
        ∗ (runPost inp K c ∗ staged inp c ∗ allPt c cc0_stg5_0 (result inp) -∗ Q ⟨⟩))
      ⊢ wpc c (theBody (F := F)) Q := by
  unfold runPre staged places wpc theBody
  rw [cc0_body_eq_skeleton]; unfold cc0_body_skel
  rw [wp_bind, k0_part28_eq_skeleton]; unfold k0_part28_skel
  iintro ⟨⟨Hst, Hcr, Hat, Hpre, Hs1, Hs3, ⟨Ha0, Ha1, Ha2, Ha3⟩, ⟨%f₀, Hsums⟩, Hslot, %f₂, Hag⟩, ⟨Hx, Hwq, Hk, Hv, Hwo⟩, Hout, HQ⟩
  -- the barrier
  rw [wp_bind, k0_part1_eq_skeleton]; unfold k0_part1_skel
  simp only [semSignalWord, semWaitWord, Prog.lift, Prog.bind_op, Prog.bind_ret, Prog.pure_eq_ret, wp_deviceId]
  iapply (bar_step inp K c 0 (n := 0) (n' := 1) rfl rfl (sig_devs c).1 rfl (by decide)) $$ Hst; iintro Hst
  iapply (bar_step inp K c 1 (n := 1) (n' := 2) rfl rfl (sig_devs c).2.1 rfl (by decide)) $$ Hst; iintro Hst
  unfold wpc; rw [wp_ret]; imodintro
  rw [wp_bind, k0_part2_eq_skeleton]; unfold k0_part2_skel
  simp only [semSignalWord, semWaitWord, Prog.lift, Prog.bind_op, Prog.bind_ret, Prog.pure_eq_ret]
  iapply (bar_step inp K c 2 (n := 2) (n' := 3) rfl rfl (sig_devs c).2.2.1 rfl (by decide)) $$ Hst; iintro Hst
  iapply (bar_step inp K c 3 (n := 3) (n' := 4) rfl rfl (sig_devs c).2.2.2.1 rfl (by decide)) $$ Hst; iintro Hst
  unfold wpc; rw [wp_ret]; imodintro
  rw [wp_bind, k0_part3_eq_skeleton]; unfold k0_part3_skel
  simp only [semSignalWord, semWaitWord, Prog.lift, Prog.bind_op, Prog.bind_ret, Prog.pure_eq_ret]
  iapply (bar_step inp K c 4 (n := 4) (n' := 5) rfl rfl (sig_devs c).2.2.2.2.1 rfl (by decide)) $$ Hst; iintro Hst
  iapply (bar_step inp K c 5 (n := 5) (n' := 6) rfl rfl (sig_devs c).2.2.2.2.2.1 rfl (by decide)) $$ Hst; iintro Hst
  iapply (bar_step inp K c 6 (n := 6) (n' := 7) rfl rfl (sig_devs c).2.2.2.2.2.2 rfl (by decide)) $$ Hst; iintro Hst
  icombine Hst Hcr Hat as H
  iapply (bar_wait inp K c rfl (by decide)) $$ H
  iintro ⟨#Hctx, Ho, Hat, Hbar⟩
  -- the partial sums
  unfold wpc; rw [wp_ret]; imodintro
  rw [wp_bind, k0_part4_eq_skeleton]; unfold k0_part4_skel
  simp only [semSignalWord, semWaitWord, Prog.lift, Prog.bind_op, Prog.bind_ret, Prog.pure_eq_ret]
  iapply (win_load c (Memref.whole cc0_stg1_0) _) $$ Hwq; iintro Hwq
  iapply (win_load c (Memref.whole cc0_stg4_0) _) $$ Hwo; iintro Hwo
  iapply (win_load c (Memref.whole cc0_stg0_0) _) $$ Hx; iintro Hx
  iapply (win_load c (Memref.whole cc0_stg2_0) _) $$ Hk; iintro Hk
  iapply (win_load c (Memref.whole cc0_stg3_0) _) $$ Hv; iintro Hv
  iapply (win_load c (Memref.whole cc0_stg2_0) _) $$ Hk; iintro Hk
  unfold wpc; rw [wp_ret]; imodintro
  rw [wp_bind, k0_part5_eq_skeleton]; unfold k0_part5_skel
  simp only [semSignalWord, semWaitWord, Prog.lift, Prog.bind_op, Prog.bind_ret, Prog.pure_eq_ret]
  iapply (win_load c (Memref.whole cc0_stg3_0) _) $$ Hv; iintro Hv
  iapply (win_load c (Memref.whole cc0_stg2_0) _) $$ Hk; iintro Hk
  iapply (win_load c (Memref.whole cc0_stg3_0) _) $$ Hv; iintro Hv
  iapply (win_load c (Memref.whole cc0_stg2_0) _) $$ Hk; iintro Hk
  unfold wpc; rw [wp_ret]; imodintro
  rw [wp_bind, k0_part6_eq_skeleton]; unfold k0_part6_skel
  simp only [semSignalWord, semWaitWord, Prog.lift, Prog.bind_op, Prog.bind_ret, Prog.pure_eq_ret]
  iapply (win_load c (Memref.whole cc0_stg3_0) _) $$ Hv; iintro Hv
  iapply (win_load c (Memref.whole cc0_stg0_0) _) $$ Hx; iintro Hx
  iapply (win_load c (Memref.whole cc0_stg2_0) _) $$ Hk; iintro Hk
  iapply (win_load c (Memref.whole cc0_stg3_0) _) $$ Hv; iintro Hv
  iapply (win_load c (Memref.whole cc0_stg2_0) _) $$ Hk; iintro Hk
  unfold wpc; rw [wp_ret]; imodintro
  rw [wp_bind, k0_part7_eq_skeleton]; unfold k0_part7_skel
  simp only [semSignalWord, semWaitWord, Prog.lift, Prog.bind_op, Prog.bind_ret, Prog.pure_eq_ret]
  iapply (win_load c (Memref.whole cc0_stg3_0) _) $$ Hv; iintro Hv
  iapply (win_load c (Memref.whole cc0_stg2_0) _) $$ Hk; iintro Hk
  iapply (win_load c (Memref.whole cc0_stg3_0) _) $$ Hv; iintro Hv
  iapply (win_load c (Memref.whole cc0_stg2_0) _) $$ Hk; iintro Hk
  unfold wpc; rw [wp_ret]; imodintro
  rw [wp_bind, k0_part8_eq_skeleton]; unfold k0_part8_skel
  simp only [semSignalWord, semWaitWord, Prog.lift, Prog.bind_op, Prog.bind_ret, Prog.pure_eq_ret]
  iapply (win_load c (Memref.whole cc0_stg3_0) _) $$ Hv; iintro Hv
  iapply (win_load c (Memref.whole cc0_scratch0) _) $$ Hsums; iintro Hsums
  iapply (sums_store inp c _ rfl) $$ Hsums; iintro Hsums
  -- the scattered blocks
  icombine Hbar Hpre Hsums as H
  ihave H := (after_barrier inp c) $$ H
  icases H with ⟨Hneed, Hhalf, Hown⟩
  ihave Hst : RsSt inp K c 0 $$ [Ho Hneed]
  · unfold RsSt; rw [upto_zero]
    isplitr; · iexact Hctx
    isplitl [Ho]; · iexact Ho
    isplitl [Hneed]; · iexact Hneed
    iempintro
  unfold wpc; rw [wp_ret]; imodintro
  rw [wp_bind, k0_part9_eq_skeleton]; unfold k0_part9_skel
  simp only [semSignalWord, semWaitWord, Prog.lift, Prog.bind_op, Prog.bind_ret, Prog.pure_eq_ret]
  iapply (rs_send inp K c 0 (n := 0) (n' := 1) rfl rfl (rs_devs c).1 (off1_eq c 0) (j := 1) rfl rfl rfl) $$ Hst; iintro Hst
  iapply (rs_send inp K c 1 (n := 1) (n' := 2) rfl rfl (rs_devs c).2.1 (off1_eq c 1) (j := 2) rfl rfl rfl) $$ Hst; iintro Hst
  unfold wpc; rw [wp_ret]; imodintro
  rw [wp_bind, k0_part10_eq_skeleton]; unfold k0_part10_skel
  simp only [semSignalWord, semWaitWord, Prog.lift, Prog.bind_op, Prog.bind_ret, Prog.pure_eq_ret]
  iapply (rs_send inp K c 2 (n := 2) (n' := 3) rfl rfl (rs_devs c).2.2.1 (off1_eq c 2) (j := 3) rfl rfl rfl) $$ Hst; iintro Hst
  iapply (rs_send inp K c 3 (n := 3) (n' := 4) rfl rfl (rs_devs c).2.2.2.1 (off1_eq c 3) (j := 4) rfl rfl rfl) $$ Hst; iintro Hst
  unfold wpc; rw [wp_ret]; imodintro
  rw [wp_bind, k0_part11_eq_skeleton]; unfold k0_part11_skel
  simp only [semSignalWord, semWaitWord, Prog.lift, Prog.bind_op, Prog.bind_ret, Prog.pure_eq_ret]
  iapply (rs_send inp K c 4 (n := 4) (n' := 5) rfl rfl (rs_devs c).2.2.2.2.1 (off1_eq c 4) (j := 5) rfl rfl rfl) $$ Hst; iintro Hst
  unfold wpc; rw [wp_ret]; imodintro
  rw [wp_bind, k0_part12_eq_skeleton]; unfold k0_part12_skel
  simp only [semSignalWord, semWaitWord, Prog.lift, Prog.bind_op, Prog.bind_ret, Prog.pure_eq_ret]
  iapply (rs_send inp K c 5 (n := 5) (n' := 6) rfl rfl (rs_devs c).2.2.2.2.2.1 (off1_eq c 5) (j := 6) rfl rfl rfl) $$ Hst; iintro Hst
  iapply (rs_send inp K c 6 (n := 6) (n' := 7) rfl rfl (rs_devs c).2.2.2.2.2.2 (off1_eq c 6) (j := 7) rfl rfl rfl) $$ Hst; iintro Hst
  iapply (own_load c _ (off2_eq c)) $$ Hown; iintro Hown
  unfold RsSt
  icases Hst with ⟨-, Ho, -, Hs0⟩
  ihave Hs0 := (Entails.of_eq (upto_seven _)) $$ Hs0
  icombine Hs1 Ha1 as H
  ihave H := (wait_start inp c 1) $$ H
  icases H with ⟨Hneed, Hgot⟩
  ihave Hst : WaitSt inp K c 1 (owed c 7 7 0) 0 $$ [Ho Hneed Hgot]
  · unfold WaitSt
    isplitr; · iexact Hctx
    isplitl [Ho]; · iexact Ho
    isplitl [Hneed]; · iexact Hneed
    iexact Hgot
  unfold wpc; rw [wp_ret]; imodintro
  rw [wp_bind, k0_part13_eq_skeleton]; unfold k0_part13_skel
  simp only [semSignalWord, semWaitWord, Prog.lift, Prog.bind_op, Prog.bind_ret, Prog.pure_eq_ret]
  iapply (rs_wait_load inp K c 0 (n := 0) (n' := 1) rfl rfl rfl (j := 1) rfl) $$ Hst; iintro Hst
  iapply (rs_wait_load inp K c 1 (n := 1) (n' := 2) rfl rfl rfl (j := 2) rfl) $$ Hst; iintro Hst
  iapply (rs_wait_load inp K c 2 (n := 2) (n' := 3) rfl rfl rfl (j := 3) rfl) $$ Hst; iintro Hst
  unfold wpc; rw [wp_ret]; imodintro
  rw [wp_bind, k0_part14_eq_skeleton]; unfold k0_part14_skel
  simp only [semSignalWord, semWaitWord, Prog.lift, Prog.bind_op, Prog.bind_ret, Prog.pure_eq_ret]
  iapply (rs_wait_load inp K c 3 (n := 3) (n' := 4) rfl rfl rfl (j := 4) rfl) $$ Hst; iintro Hst
  iapply (rs_wait_load inp K c 4 (n := 4) (n' := 5) rfl rfl rfl (j := 5) rfl) $$ Hst; iintro Hst
  unfold wpc; rw [wp_ret]; imodintro
  rw [wp_bind, k0_part15_eq_skeleton]; unfold k0_part15_skel
  simp only [semSignalWord, semWaitWord, Prog.lift, Prog.bind_op, Prog.bind_ret, Prog.pure_eq_ret]
  iapply (rs_wait_load inp K c 5 (n := 5) (n' := 6) rfl rfl rfl (j := 6) rfl) $$ Hst; iintro Hst
  iapply (rs_wait_load inp K c 6 (n := 6) (n' := 7) rfl rfl rfl (j := 7) rfl) $$ Hst; iintro Hst
  iapply (old_load c _ (off2_eq c)) $$ Hag; iintro Hag
  iapply (own_store inp c _ (off2_eq c) rfl) $$ Hag; iintro Hag
  unfold WaitSt
  icases Hst with ⟨-, Ho, -, Hgot⟩
  ihave H := (wait_end inp c 1) $$ Hgot
  icases H with ⟨Hland, Hb1⟩
  -- the gathered blocks
  icombine Hhalf Hag as H
  ihave Hneed := (after_store inp c) $$ H
  ihave Hst : AgSt inp K c 0 $$ [Ho Hneed]
  · unfold AgSt; rw [upto_zero]
    isplitr; · iexact Hctx
    isplitl [Ho]; · iexact Ho
    isplitl [Hneed]; · iexact Hneed
    iempintro
  unfold wpc; rw [wp_ret]; imodintro
  rw [wp_bind, k0_part16_eq_skeleton]; unfold k0_part16_skel
  simp only [semSignalWord, semWaitWord, Prog.lift, Prog.bind_op, Prog.bind_ret, Prog.pure_eq_ret]
  iapply (ag_send inp K c 0 (n := 0) (n' := 1) rfl rfl (ag_devs c).1 (off3_eq c) rfl rfl) $$ Hst; iintro Hst
  iapply (ag_send inp K c 1 (n := 1) (n' := 2) rfl rfl (ag_devs c).2.1 (off3_eq c) rfl rfl) $$ Hst; iintro Hst
  unfold wpc; rw [wp_ret]; imodintro
  rw [wp_bind, k0_part17_eq_skeleton]; unfold k0_part17_skel
  simp only [semSignalWord, semWaitWord, Prog.lift, Prog.bind_op, Prog.bind_ret, Prog.pure_eq_ret]
  iapply (ag_send inp K c 2 (n := 2) (n' := 3) rfl rfl (ag_devs c).2.2.1 (off3_eq c) rfl rfl) $$ Hst; iintro Hst
  unfold wpc; rw [wp_ret]; imodintro
  rw [wp_bind, k0_part18_eq_skeleton]; unfold k0_part18_skel
  simp only [semSignalWord, semWaitWord, Prog.lift, Prog.bind_op, Prog.bind_ret, Prog.pure_eq_ret]
  iapply (ag_send inp K c 3 (n := 3) (n' := 4) rfl rfl (ag_devs c).2.2.2.1 (off3_eq c) rfl rfl) $$ Hst; iintro Hst
  iapply (ag_send inp K c 4 (n := 4) (n' := 5) rfl rfl (ag_devs c).2.2.2.2.1 (off3_eq c) rfl rfl) $$ Hst; iintro Hst
  unfold wpc; rw [wp_ret]; imodintro
  rw [wp_bind, k0_part19_eq_skeleton]; unfold k0_part19_skel
  simp only [semSignalWord, semWaitWord, Prog.lift, Prog.bind_op, Prog.bind_ret, Prog.pure_eq_ret]
  iapply (ag_send inp K c 5 (n := 5) (n' := 6) rfl rfl (ag_devs c).2.2.2.2.2.1 (off3_eq c) rfl rfl) $$ Hst; iintro Hst
  iapply (ag_send inp K c 6 (n := 6) (n' := 7) rfl rfl (ag_devs c).2.2.2.2.2.2 (off3_eq c) rfl rfl) $$ Hst; iintro Hst
  unfold AgSt
  icases Hst with ⟨-, Ho, -, Hs2⟩
  ihave Hs2 := (Entails.of_eq (upto_seven _)) $$ Hs2
  icombine Hs3 Ha3 as H
  ihave H := (wait_start inp c 3) $$ H
  icases H with ⟨Hneed, Hgot⟩
  ihave Hst : WaitSt inp K c 3 (owed c 7 7 7) 0 $$ [Ho Hneed Hgot]
  · unfold WaitSt
    isplitr; · iexact Hctx
    isplitl [Ho]; · iexact Ho
    isplitl [Hneed]; · iexact Hneed
    iexact Hgot
  unfold wpc; rw [wp_ret]; imodintro
  rw [wp_bind, k0_part20_eq_skeleton]; unfold k0_part20_skel
  simp only [semSignalWord, semWaitWord, Prog.lift, Prog.bind_op, Prog.bind_ret, Prog.pure_eq_ret]
  iapply (copy_wait inp K c 3 (owed c 7 7 7) 0 (mayWait_done c 3 0) (n := 0) (n' := 1) rfl rfl rfl) $$ Hst; iintro Hst
  unfold wpc; rw [wp_ret]; imodintro
  rw [wp_bind, k0_part21_eq_skeleton]; unfold k0_part21_skel
  simp only [semSignalWord, semWaitWord, Prog.lift, Prog.bind_op, Prog.bind_ret, Prog.pure_eq_ret]
  iapply (copy_wait inp K c 3 (owed c 7 7 7) 1 (mayWait_done c 3 1) (n := 1) (n' := 2) rfl rfl rfl) $$ Hst; iintro Hst
  unfold wpc; rw [wp_ret]; imodintro
  rw [wp_bind, k0_part22_eq_skeleton]; unfold k0_part22_skel
  simp only [semSignalWord, semWaitWord, Prog.lift, Prog.bind_op, Prog.bind_ret, Prog.pure_eq_ret]
  iapply (copy_wait inp K c 3 (owed c 7 7 7) 2 (mayWait_done c 3 2) (n := 2) (n' := 3) rfl rfl rfl) $$ Hst; iintro Hst
  unfold wpc; rw [wp_ret]; imodintro
  rw [wp_bind, k0_part23_eq_skeleton]; unfold k0_part23_skel
  simp only [semSignalWord, semWaitWord, Prog.lift, Prog.bind_op, Prog.bind_ret, Prog.pure_eq_ret]
  iapply (copy_wait inp K c 3 (owed c 7 7 7) 3 (mayWait_done c 3 3) (n := 3) (n' := 4) rfl rfl rfl) $$ Hst; iintro Hst
  unfold wpc; rw [wp_ret]; imodintro
  rw [wp_bind, k0_part24_eq_skeleton]; unfold k0_part24_skel
  simp only [semSignalWord, semWaitWord, Prog.lift, Prog.bind_op, Prog.bind_ret, Prog.pure_eq_ret]
  iapply (copy_wait inp K c 3 (owed c 7 7 7) 4 (mayWait_done c 3 4) (n := 4) (n' := 5) rfl rfl rfl) $$ Hst; iintro Hst
  unfold wpc; rw [wp_ret]; imodintro
  rw [wp_bind, k0_part25_eq_skeleton]; unfold k0_part25_skel
  simp only [semSignalWord, semWaitWord, Prog.lift, Prog.bind_op, Prog.bind_ret, Prog.pure_eq_ret]
  iapply (copy_wait inp K c 3 (owed c 7 7 7) 5 (mayWait_done c 3 5) (n := 5) (n' := 6) rfl rfl rfl) $$ Hst; iintro Hst
  unfold wpc; rw [wp_ret]; imodintro
  rw [wp_bind, k0_part26_eq_skeleton]; unfold k0_part26_skel
  simp only [semSignalWord, semWaitWord, Prog.lift, Prog.bind_op, Prog.bind_ret, Prog.pure_eq_ret]
  iapply (copy_wait inp K c 3 (owed c 7 7 7) 6 (mayWait_done c 3 6) (n := 6) (n' := 7) rfl rfl rfl) $$ Hst; iintro Hst
  unfold WaitSt
  icases Hst with ⟨-, Ho, -, Hgot⟩
  ihave H := (wait_end inp c 3) $$ Hgot
  icases H with ⟨Hrows, Hb3⟩
  -- the copies sent
  icombine Hs0 Ha0 as H
  ihave H := (wait_start inp c 0) $$ H
  icases H with ⟨Hneed, Hgot⟩
  ihave Hst : WaitSt inp K c 0 (owed c 7 7 7) 0 $$ [Ho Hneed Hgot]
  · unfold WaitSt
    isplitr; · iexact Hctx
    isplitl [Ho]; · iexact Ho
    isplitl [Hneed]; · iexact Hneed
    iexact Hgot
  iapply (copy_wait inp K c 0 (owed c 7 7 7) 0 (mayWait_done c 0 0) (n := 0) (n' := 1) rfl rfl rfl) $$ Hst; iintro Hst
  iapply (copy_wait inp K c 0 (owed c 7 7 7) 1 (mayWait_done c 0 1) (n := 1) (n' := 2) rfl rfl rfl) $$ Hst; iintro Hst
  iapply (copy_wait inp K c 0 (owed c 7 7 7) 2 (mayWait_done c 0 2) (n := 2) (n' := 3) rfl rfl rfl) $$ Hst; iintro Hst
  iapply (copy_wait inp K c 0 (owed c 7 7 7) 3 (mayWait_done c 0 3) (n := 3) (n' := 4) rfl rfl rfl) $$ Hst; iintro Hst
  unfold wpc; rw [wp_ret]; imodintro
  rw [wp_bind, k0_part27_eq_skeleton]; unfold k0_part27_skel
  simp only [semSignalWord, semWaitWord, Prog.lift, Prog.bind_op, Prog.bind_ret, Prog.pure_eq_ret]
  iapply (copy_wait inp K c 0 (owed c 7 7 7) 4 (mayWait_done c 0 4) (n := 4) (n' := 5) rfl rfl rfl) $$ Hst; iintro Hst
  iapply (copy_wait inp K c 0 (owed c 7 7 7) 5 (mayWait_done c 0 5) (n := 5) (n' := 6) rfl rfl rfl) $$ Hst; iintro Hst
  iapply (copy_wait inp K c 0 (owed c 7 7 7) 6 (mayWait_done c 0 6) (n := 6) (n' := 7) rfl rfl rfl) $$ Hst; iintro Hst
  unfold WaitSt
  icases Hst with ⟨-, Ho, -, Hgot⟩
  ihave H := (wait_end inp c 0) $$ Hgot
  icases H with ⟨Hsentp, Hb0⟩
  icombine Hs2 Ha2 as H
  ihave H := (wait_start inp c 2) $$ H
  icases H with ⟨Hneed, Hgot⟩
  ihave Hst : WaitSt inp K c 2 (owed c 7 7 7) 0 $$ [Ho Hneed Hgot]
  · unfold WaitSt
    isplitr; · iexact Hctx
    isplitl [Ho]; · iexact Ho
    isplitl [Hneed]; · iexact Hneed
    iexact Hgot
  iapply (copy_wait inp K c 2 (owed c 7 7 7) 0 (mayWait_done c 2 0) (n := 0) (n' := 1) rfl rfl rfl) $$ Hst; iintro Hst
  iapply (copy_wait inp K c 2 (owed c 7 7 7) 1 (mayWait_done c 2 1) (n := 1) (n' := 2) rfl rfl rfl) $$ Hst; iintro Hst
  unfold wpc; rw [wp_ret]; imodintro
  iapply (copy_wait inp K c 2 (owed c 7 7 7) 2 (mayWait_done c 2 2) (n := 2) (n' := 3) rfl rfl rfl) $$ Hst; iintro Hst
  iapply (copy_wait inp K c 2 (owed c 7 7 7) 3 (mayWait_done c 2 3) (n := 3) (n' := 4) rfl rfl rfl) $$ Hst; iintro Hst
  iapply (copy_wait inp K c 2 (owed c 7 7 7) 4 (mayWait_done c 2 4) (n := 4) (n' := 5) rfl rfl rfl) $$ Hst; iintro Hst
  unfold wpc; rw [wp_ret]; imodintro
  iapply (copy_wait inp K c 2 (owed c 7 7 7) 5 (mayWait_done c 2 5) (n := 5) (n' := 6) rfl rfl rfl) $$ Hst; iintro Hst
  iapply (copy_wait inp K c 2 (owed c 7 7 7) 6 (mayWait_done c 2 6) (n := 6) (n' := 7) rfl rfl rfl) $$ Hst; iintro Hst
  unfold WaitSt
  icases Hst with ⟨-, Ho, -, Hgot⟩
  ihave H := (wait_end inp c 2) $$ Hgot
  icases H with ⟨Hshares, Hb2⟩
  -- the result
  icombine Hshares Hrows as H
  ihave Hall := (ag_join inp c) $$ H
  iapply (win_load c (Memref.whole cc0_scratch2) _) $$ Hall; iintro Hall
  iapply (win_load c (Memref.whole cc0_stg5_0) _) $$ Hout; iintro Hout
  iapply (out_store inp c _ rfl) $$ Hout; iintro Hout
  icombine Hsentp Hown as H
  ihave Hsums := (part_join inp c) $$ H
  icombine Hslot Hland as H
  ihave Hslots := (slot_join inp c) $$ H
  ihave Ho := (Entails.of_eq (congrArg (owing c) (owed_done c))) $$ Ho
  unfold wpc; rw [wp_ret]; imodintro
  iapply HQ
  unfold runPost places
  isplitr [Hx Hwq Hk Hv Hwo Hout]
  · isplitr; · iexact Hctx
    isplitl [Ho]; · iexact Ho
    isplitl [Hat]; · iexact Hat
    isplitl [Hb0 Hb1 Hb2 Hb3]
    · isplitl [Hb0]; · iexact Hb0
      isplitl [Hb1]; · iexact Hb1
      isplitl [Hb2]; · iexact Hb2
      iexact Hb3
    isplitl [Hsums]; · iexists (part (inp c)); iexact Hsums
    isplitl [Hslots]; · iexact Hslots
    iexists (gathered inp); iexact Hall
  · isplitr [Hout]
    · isplitl [Hx]; · iexact Hx
      isplitl [Hwq]; · iexact Hwq
      isplitl [Hk]; · iexact Hk
      isplitl [Hv]; · iexact Hv
      iexact Hwo
    iexact Hout

end Cert.KernelIdeal.Talk
-- ==== Proof.Talk.Ghost.lean ====
module

public import proofs.«01_k».proof.Proof.Talk.Body

@[expose] public section

noncomputable section

/-!
# From the launch to the run, and back

What a device carries from the launch, what it has after it has opened its copy cells, and what is
left when the run is over and every cell is closed.
-/

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (inp : Dev nD → Inputs F) (K : GSem nD τ sig → ℕ) (c : Dev nD)

/-! ## Two families over one index -/

theorem paired {I : Type} [Fintype I] {Φ Ψ : I → sProp 𝕄} :
    iprop(bigSep Finset.univ Φ ∗ bigSep Finset.univ Ψ) ⊢ bigSep Finset.univ fun i => iprop(Φ i ∗ Ψ i) :=
  Entails.of_eq (bigSep_sep' _ _ _).symm
theorem taken {I : Type} [Fintype I] {Φ Ψ : I → sProp 𝕄} :
    (bigSep Finset.univ fun i => iprop(Φ i ∗ Ψ i)) ⊢ iprop(bigSep Finset.univ Φ ∗ bigSep Finset.univ Ψ) :=
  Entails.of_eq (bigSep_sep' _ _ _)

/-! ## The copy cells of one device -/

/-- The copy cells' semaphores. -/
abbrev osem : Fin 4 × Fin 7 → SemLoc sig := fun p => .dma (dS p.1 p.2)
theorem osem_inj : Function.Injective osem := fun p q h =>
  Option.some.inj ((kind_dS p.1 p.2).symm.trans ((congrArg kind h).trans (kind_dS q.1 q.2)))

/-- An assertion for every copy cell, by kind. -/
theorem by_kind (Φ : Fin 4 → Fin 7 → sProp 𝕄) :
    (bigSep Finset.univ fun p : Fin 4 × Fin 7 => Φ p.1 p.2)
      = iprop(bigSep Finset.univ (Φ 0) ∗ bigSep Finset.univ (Φ 1) ∗ bigSep Finset.univ (Φ 2) ∗ bigSep Finset.univ (Φ 3)) := by
  rw [bigSep_univ_prod, show (Finset.univ : Finset (Fin 4)) = {0, 1, 2, 3} from by decide, bigSep_insert (by decide),
    bigSep_insert (by decide), bigSep_insert (by decide), bigSep_singleton]
  rfl

/-! ## What a device carries -/

/-- The tokens of the duties a device pays in exchange `d`. -/
def hand (d : Fin 7) : sProp 𝕄 :=
  iprop(dutyTok ER (barCell (nb c d)) 0 (rev d) ∗ dutyTok ER (dCell c 0 d) 0 0 ∗ dutyTok ER (dCell (nb c d) 1 d) 0 0
    ∗ dutyTok ER (dCell c 2 d) 0 0 ∗ dutyTok ER (dCell (nb c d) 3 d) 0 0)
/-- Every barrier cell is in its first round. -/
def barsOpen : sProp 𝕄 := bigSep Finset.univ fun c : Dev nD => reached ER (barCell c) 0
instance barsOpen_persistent : BI.Persistent (barsOpen (F := F)) := by unfold barsOpen; infer_instance
/-- Every copy cell of the device is in its first round. -/
def copiesOpen : sProp 𝕄 := bigSep Finset.univ fun p : Fin 4 × Fin 7 => reached ER (dCell c p.1 p.2) 0
instance copiesOpen_persistent : BI.Persistent (copiesOpen (F := F) c) := by unfold copiesOpen; infer_instance

/-- From the launch. -/
def ghost : sProp 𝕄 :=
  iprop(invs inp K ∗ barsOpen ∗ atPos ER (barCell c) 0 ∅ 0
    ∗ (bigSep Finset.univ fun p : Fin 4 × Fin 7 => openTok ER (dCell c p.1 p.2)) ∗ bigSep Finset.univ fun d => hand c d)
/-- With the copy cells open. -/
def opened : sProp 𝕄 :=
  iprop(ctx inp K ∗ barsOpen ∗ copiesOpen c ∗ atPos ER (barCell c) 0 ∅ 0
    ∗ (bigSep Finset.univ fun p : Fin 4 × Fin 7 => atPos ER (dCell c p.1 p.2) 0 ∅ 0) ∗ bigSep Finset.univ fun d => hand c d)
/-- The credits of the arrivals. -/
def credits : sProp 𝕄 :=
  iprop(cred (tallyAt (barCell c) () 7) ∗ (bigSep Finset.univ fun d => sent (F := F) c 1 d) ∗ bigSep Finset.univ fun d => sent (F := F) c 3 d)
/-- The three scratch buffers, at any contents. -/
def scratches : sProp 𝕄 :=
  iprop((∃ f, allPt c cc0_scratch0 f) ∗ (∃ f, allPt c cc0_scratch1 f) ∗ ∃ f, allPt c cc0_scratch2 f)

/-! ## Opening and closing -/

theorem open_one (p : Fin 4 × Fin 7) :
    iprop(invs inp K ∗ (openTok ER (dCell c p.1 p.2) ∗ semVal (dCell c p.1 p.2) 0))
      ⊢ (|={Set.univ}=> iprop(atPos ER (dCell c p.1 p.2) 0 ∅ 0 ∗ reached ER (dCell c p.1 p.2) 0) : sProp 𝕄) :=
  (sep_mono_left (inv_copy inp K c p.1 p.2)).trans
    (Rounds.cell_open ER (talk inp) (g := dCell c p.1 p.2) (Set.mem_univ (K (dCell c p.1 p.2))))

theorem open_all :
    iprop(invs inp K ∗ bigSep Finset.univ fun p : Fin 4 × Fin 7 => iprop(openTok ER (dCell c p.1 p.2) ∗ semVal (dCell c p.1 p.2) 0))
      ⊢ (|={Set.univ}=> bigSep Finset.univ fun p : Fin 4 × Fin 7 => iprop(atPos ER (dCell c p.1 p.2) 0 ∅ 0 ∗ reached ER (dCell c p.1 p.2) 0) : sProp 𝕄) :=
  (bigSep_with_persistent fun p _ => open_one inp K c p).trans (bigSep_fupd _ _)

theorem opening :
    iprop((∃ K, ghost inp K c) ∗ (bigSep Finset.univ fun p : Fin 4 × Fin 7 => semVal (dCell c p.1 p.2) 0) ∗ levAts L lv)
      ⊢ (|={Set.univ}=> iprop(∃ K, opened inp K c) : sProp 𝕄) := by
  unfold ghost
  iintro ⟨⟨%K, #HI, #HB, Hat, Ho, Hh⟩, Hv, #Hlev⟩
  icombine Ho Hv as Hov
  ihave Hov := paired $$ Hov
  imod (open_all inp K c) $$ [Hov] with H
  · isplitr; · iexact HI
    iexact Hov
  ihave H := taken $$ H
  icases H with ⟨Ha, #Hr⟩
  imodintro
  iexists K
  unfold opened ctx copiesOpen
  isplitr; · isplitr <;> iassumption
  isplitr; · iexact HB
  isplitr; · iexact Hr
  isplitl [Hat]; · iexact Hat
  isplitl [Ha]; · iexact Ha
  iexact Hh

theorem close_one (p : Fin 4 × Fin 7) :
    iprop(invs inp K ∗ atPos ER (dCell c p.1 p.2) 1 ∅ 0) ⊢ (|={Set.univ}=> semVal (dCell c p.1 p.2) 0 : sProp 𝕄) :=
  (sep_mono_left (inv_copy inp K c p.1 p.2)).trans
    (Rounds.cell_close ER (talk inp) (Set.mem_univ (K (dCell c p.1 p.2))) id (duties_later inp (dCell c p.1 p.2)))
theorem close_copies :
    iprop(invs inp K ∗ bigSep Finset.univ fun p : Fin 4 × Fin 7 => atPos ER (dCell c p.1 p.2) 1 ∅ 0)
      ⊢ (|={Set.univ}=> bigSep Finset.univ fun p : Fin 4 × Fin 7 => semVal (dCell c p.1 p.2) 0 : sProp 𝕄) :=
  (bigSep_with_persistent fun p _ => close_one inp K c p).trans (bigSep_fupd _ _)
theorem close_bar :
    iprop(invs inp K ∗ atPos ER (barCell c) 1 ∅ 0) ⊢ (|={Set.univ}=> semVal (barCell c) 0 : sProp 𝕄) :=
  (sep_mono_left (inv_bar inp K c)).trans
    (Rounds.cell_close ER (talk inp) (Set.mem_univ (K (barCell c))) id (duties_later inp (barCell c)))

/-- After the run every cell is closed. -/
theorem closing : runPost inp K c
    ⊢ (|={Set.univ}=> iprop(owing c 0 ∗ semVal (barCell c) 0 ∗ (bigSep Finset.univ fun p : Fin 4 × Fin 7 => semVal (dCell c p.1 p.2) 0)
        ∗ scratches c) : sProp 𝕄) := by
  unfold runPost ctx places scratches
  iintro ⟨⟨#HI, -⟩, Ho, Hat, Hpl, Hs⟩
  imod (close_bar inp K c) $$ [Hat] with Hb
  · isplitr; · iexact HI
    iexact Hat
  imod (close_copies inp K c) $$ [Hpl] with Hv
  · isplitr; · iexact HI
    iapply (Entails.of_eq (by_kind fun k d => atPos ER (dCell c k d) 1 ∅ 0).symm); iexact Hpl
  imodintro
  isplitl [Ho]; · iexact Ho
  isplitl [Hb]; · iexact Hb
  isplitl [Hv]; · iexact Hv
  iexact Hs

/-! ## Into the run -/

theorem reached_bar (c' : Dev nD) : barsOpen ⊢ (reached ER (barCell c') 0 : sProp 𝕄) :=
  bigSep_elim (Φ := fun c : Dev nD => reached ER (barCell c) 0) (Finset.mem_univ c')
theorem reached_copy (k : Fin 4) (d : Fin 7) : copiesOpen c ⊢ (reached ER (dCell c k d) 0 : sProp 𝕄) :=
  bigSep_elim (Φ := fun p : Fin 4 × Fin 7 => reached ER (dCell c p.1 p.2) 0) (Finset.mem_univ (k, d))

/-- `rev` as a permutation of the exchanges. -/
def revs : Fin 7 ≃ Fin 7 := ⟨rev, rev, rev_rev, rev_rev⟩

theorem need_one (d : Fin 7) :
    iprop((barsOpen ∗ copiesOpen c) ∗ (hand c d ∗ (∃ f : FVec F S8x32x512 .f32, slotPt c (sl (rev d)) f)
        ∗ ∃ f : FVec F S256x512 .f32, agPt c (nb c d) fullShare f))
      ⊢ (iprop(barNeed c d ∗ sendPre c d) : sProp 𝕄) := by
  unfold hand barNeed sendPre
  iintro ⟨⟨#HB, #HC⟩, ⟨H0, H1, H2, H3, H4⟩, Hs, Ha⟩
  isplitl [H0 Hs Ha]
  · isplitl [H0]; · iexact H0
    isplitr; · iapply (reached_bar (nb c d)); iexact HB
    isplitl [Hs]; · iexact Hs
    isplitl [Ha]; · iexact Ha
    isplitr; · iapply (reached_copy c 1 (rev d)); iexact HC
    iapply (reached_copy c 3 (rev d)); iexact HC
  · isplitl [H1]; · iexact H1
    isplitr; · iapply (reached_copy c 0 d); iexact HC
    isplitl [H2]; · iexact H2
    isplitl [H3]; · iexact H3
    isplitr; · iapply (reached_copy c 2 d); iexact HC
    iexact H4

theorem slots_out (f : FVec F S8x32x512 .f32) :
    (allPt c cc0_scratch1 f : sProp 𝕄)
      ⊢ iprop((∃ f : FVec F S8x32x512 .f32, slotPt c 0 f) ∗ bigSep Finset.univ fun d : Fin 7 => iprop(∃ f : FVec F S8x32x512 .f32, slotPt c (sl (rev d)) f)) := by
  rw [slot_pieces, slots_split, bigSep_univ_equiv revs (fun d : Fin 7 => (slotPt c (sl d) f : sProp 𝕄))]
  have one : ∀ j : Fin 8, (slotPt c j f : sProp 𝕄) ⊢ iprop(∃ f : FVec F S8x32x512 .f32, slotPt c j f) := fun j => by
    iintro H; iexists f; iexact H
  exact BI.sep_mono (one 0) (bigSep_mono fun d _ => one (sl (rev d)))
theorem ag_out (f : FVec F S256x512 .f32) :
    (allPt c cc0_scratch2 f : sProp 𝕄)
      ⊢ iprop((∃ f : FVec F S256x512 .f32, agPt c c fullShare f) ∗ bigSep Finset.univ fun d : Fin 7 => iprop(∃ f : FVec F S256x512 .f32, agPt c (nb c d) fullShare f)) := by
  rw [ag_pieces, devs_nb c]
  have one : ∀ j : Dev nD, (agPt c j fullShare f : sProp 𝕄) ⊢ iprop(∃ f : FVec F S256x512 .f32, agPt c j fullShare f) := fun j => by
    iintro H; iexists f; iexact H
  exact BI.sep_mono (one c) (bigSep_mono fun d _ => one (nb c d))

theorem needs :
    iprop((barsOpen ∗ copiesOpen c) ∗ (bigSep Finset.univ fun d => hand c d)
        ∗ (bigSep Finset.univ fun d : Fin 7 => iprop(∃ f : FVec F S8x32x512 .f32, slotPt c (sl (rev d)) f))
        ∗ bigSep Finset.univ fun d : Fin 7 => iprop(∃ f : FVec F S256x512 .f32, agPt c (nb c d) fullShare f))
      ⊢ (iprop((bigSep Finset.univ fun d => barNeed c d) ∗ bigSep Finset.univ fun d => sendPre c d) : sProp 𝕄) := by
  refine (sep_mono_right ?_).trans ((bigSep_with_persistent fun d _ => need_one c d).trans taken)
  exact (sep_mono_right paired).trans paired

/-- All the run starts from. -/
theorem into_run :
    iprop(opened inp K c ∗ credits c ∗ scratches c ∗ owing c (owed c 0 0 0)) ⊢ (runPre inp K c : sProp 𝕄) := by
  unfold opened credits scratches runPre BarSt places
  iintro ⟨⟨#Hctx, #HB, #HC, Hat, Hpl, Hh⟩, ⟨Hcb, Hc1, Hc3⟩, ⟨Hs0, ⟨%f1, Hs1⟩, ⟨%f2, Hs2⟩⟩, Ho⟩
  ihave Hs1 := (slots_out c f1) $$ Hs1
  icases Hs1 with ⟨Hslot, Hslots⟩
  ihave Hs2 := (ag_out c f2) $$ Hs2
  icases Hs2 with ⟨Hag, Hags⟩
  ihave Hn := (needs (F := F) c) $$ [Hh Hslots Hags]
  · isplitr; · isplitr <;> iassumption
    isplitl [Hh]; · iexact Hh
    isplitl [Hslots] <;> iassumption
  icases Hn with ⟨Hbar, Hsend⟩
  isplitl [Ho Hbar]
  · isplitr; · iexact Hctx
    isplitl [Ho]; · iexact Ho
    rw [froms_zero]; iexact Hbar
  isplitl [Hcb]; · iexact Hcb
  isplitl [Hat]; · iexact Hat
  isplitl [Hsend]; · iexact Hsend
  isplitl [Hc1]; · iexact Hc1
  isplitl [Hc3]; · iexact Hc3
  isplitl [Hpl]
  · iapply (Entails.of_eq (by_kind fun k d => atPos ER (dCell c k d) 0 ∅ 0)); iexact Hpl
  isplitl [Hs0]; · iexact Hs0
  isplitl [Hslot]; · iexact Hslot
  iexact Hag

end Cert.KernelIdeal.Talk
-- ==== Proof.Talk.Region.lean ====
module

public import proofs.«01_k».proof.Proof.Talk.Ghost
public import proofs.«01_k».proof.Proof.Gen.KernelIdeal.Regions
public import Idealize.ShloMosaic.Lib.Pipeline.ValueKit

@[expose] public section

noncomputable section

/-!
# The kernel's region

The kernel runs once, on whole arrays: it is entered from the arrays the host part left, its cells are
opened, the run of one device is made, and its cells are closed.
-/

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What the kernel is given -/

/-- The arrays of device `c` when the kernel is called. -/
def given (c : Dev nD) : Inputs F where
  x := V1 m c main_arg0
  wq := V1 m c main_arg1
  k := V1 m c main_v16
  v := V1 m c main_v18
  wo := V1 m c main_arg4

/-- The arrays after the kernel. -/
abbrev left (c : Dev nD) : Valuation τ sig (Elt F) := Function.update (V1 m c) main_v19 (result (given m))

theorem own_facts : Pipeline.OwnSemFacts spec0 osem := by decide +kernel
theorem own_eq (c : Dev nD) : (Pipeline.ownSems0 osem c : sProp 𝕄)
    = bigSep Finset.univ fun p : Fin 4 × Fin 7 => semVal (dCell c p.1 p.2) 0 := rfl

/-! ## The window data -/

/-- What enters the run beside the staged arrays, and what leaves it. -/
def enter (c : Dev nD) : sProp 𝕄 := iprop((∃ K, opened (given m) K c) ∗ credits c)
def bodyPre (c : Dev nD) : sProp 𝕄 := iprop(enter m c ∗ scratches c ∗ ∃ r, prngReg c r)
def bodyPost (c : Dev nD) : sProp 𝕄 := iprop(semVal (barCell c) 0 ∗ Pipeline.ownSems0 osem c ∗ scratches c ∗ ∃ r, prngReg c r)

def dat (c : Dev nD) : Dat τ (Elt F) Unit ℕ UU ℕ cfg0 c where
  A w := V1 m c (Proc.devRef .tc (Pipeline.arrRef spec0 w))
  after w _ := match w with
    | ⟨0, _⟩ => (given m c).x
    | ⟨1, _⟩ => (given m c).wq
    | ⟨2, _⟩ => (given m c).k
    | ⟨3, _⟩ => (given m c).v
    | ⟨4, _⟩ => (given m c).wo
    | ⟨5, _⟩ => result (given m)
  Φ t := if t.val = 0 then bodyPre m c else bodyPost c
  q _ := fullShare
  owed t := if t.val = 0 then owed c 0 0 0 else 0

theorem before0 (c : Dev nD) (d) : (dat m c).before 0 t0_0 d = (given m c).x := by
  rw [Pipeline.Dat.before_fetched _ _ _ (fetch0_0 _)]
  funext j
  exact congrArg (V1 m c main_arg0) (funext fun a => Fin.ext (by show 0 * _ + 1 * (j a).val = _; omega))
theorem before1 (c : Dev nD) (d) : (dat m c).before 1 t0_0 d = (given m c).wq := by
  rw [Pipeline.Dat.before_fetched _ _ _ (fetch0_1 _)]
  funext j
  exact congrArg (V1 m c main_arg1) (funext fun a => Fin.ext (by show 0 * _ + 1 * (j a).val = _; omega))
theorem before2 (c : Dev nD) (d) : (dat m c).before 2 t0_0 d = (given m c).k := by
  rw [Pipeline.Dat.before_fetched _ _ _ (fetch0_2 _)]
  funext j
  exact congrArg (V1 m c main_v16) (funext fun a => Fin.ext (by show 0 * _ + 1 * (j a).val = _; omega))
theorem before3 (c : Dev nD) (d) : (dat m c).before 3 t0_0 d = (given m c).v := by
  rw [Pipeline.Dat.before_fetched _ _ _ (fetch0_3 _)]
  funext j
  exact congrArg (V1 m c main_v18) (funext fun a => Fin.ext (by show 0 * _ + 1 * (j a).val = _; omega))
theorem before4 (c : Dev nD) (d) : (dat m c).before 4 t0_0 d = (given m c).wo := by
  rw [Pipeline.Dat.before_fetched _ _ _ (fetch0_4 _)]
  funext j
  exact congrArg (V1 m c main_arg4) (funext fun a => Fin.ext (by show 0 * _ + 1 * (j a).val = _; omega))

theorem out_end (c : Dev nD) : (dat m c).arrAt 5 cfg0.N = result (given m) :=
  (dat m c).arrAt_eq_of_after_last 5 t0_0 (by decide +kernel) _ fun j => rfl

/-! ## What the devices owe -/

theorem owed_first (c : Dev nD) : (dat m c).owed t0_0.castSucc = owed c 0 0 0 := by
  show (if (t0_0.castSucc : Fin (cfg0.N + 1)).val = 0 then owed c 0 0 0 else 0) = _; exact if_pos rfl
theorem owed_last (c : Dev nD) : (dat m c).owed t0_0.succ = 0 := by
  show (if (t0_0.succ : Fin (cfg0.N + 1)).val = 0 then owed c 0 0 0 else 0) = _; exact if_neg (by decide)
theorem state_first (c : Dev nD) : (dat m c).Φ t0_0.castSucc = bodyPre m c := by
  show (if (t0_0.castSucc : Fin (cfg0.N + 1)).val = 0 then bodyPre m c else bodyPost c) = _; exact if_pos rfl
theorem state_last (c : Dev nD) : (dat m c).Φ t0_0.succ = bodyPost c := by
  show (if (t0_0.succ : Fin (cfg0.N + 1)).val = 0 then bodyPre m c else bodyPost c) = _; exact if_neg (by decide)

theorem owes_out (c : Dev nD) : ((dat m c).owesAt () t0_0.castSucc : sProp 𝕄) ⊢ owing c (owed c 0 0 0) := by
  unfold Dat.owesAt Pipeline.owesWithin owing; rw [owed_first]
  iintro ⟨%W, -, HO⟩; iexists W; iexact HO
theorem owes_in (c : Dev nD) : (owing c 0 : sProp 𝕄) ⊢ (dat m c).owesAt () t0_0.succ := by
  unfold Dat.owesAt Pipeline.owesWithin Dat.bound owing; rw [owed_last]
  iintro ⟨%W, HO⟩; iexists W; isplitr; · ipureintro; exact fun _ _ => Or.inl trivial
  iexact HO

/-! ## The body -/

theorem run_closed (c : Dev nD) (f₅ : FVec F S2x128x512 .f32) (Q : PUnit → sProp 𝕄) :
    iprop(bodyPre m c ∗ owing c (owed c 0 0 0) ∗ staged (given m) c ∗ allPt c cc0_stg5_0 f₅
        ∗ ((bodyPost c ∗ owing c 0 ∗ staged (given m) c ∗ allPt c cc0_stg5_0 (result (given m))) -∗ Q ⟨⟩))
      ⊢ wpc c (theBody (F := F)) Q := by
  unfold bodyPre enter bodyPost
  iintro ⟨⟨⟨⟨%K, Hop⟩, Hcr⟩, Hscr, Hp⟩, Ho, Hst, Hout, HQ⟩
  iapply (wp_fupd frame (wpE (defs₀ (F := F)) 𝒱₀ (c : Thread nD τ) none) Set.univ (theBody (F := F)) Q)
  iapply (body_run (given m) K c f₅ (fun a => iprop(|={Set.univ}=> Q a)))
  isplitl [Hop Hcr Hscr Ho]
  · iapply (into_run (given m) K c)
    isplitl [Hop]; · iexact Hop
    isplitl [Hcr]; · iexact Hcr
    isplitl [Hscr]; · iexact Hscr
    iexact Ho
  isplitl [Hst]; · iexact Hst
  isplitl [Hout]; · iexact Hout
  iintro ⟨Hpost, Hst, Hout⟩
  imod (closing (given m) K c) $$ Hpost with ⟨Ho, Hb, Hv, Hs⟩
  imodintro
  iapply HQ
  isplitl [Hp Hb Hv Hs]
  · isplitl [Hb]; · iexact Hb
    isplitl [Hv]; · iapply (Entails.of_eq (own_eq c).symm); iexact Hv
    isplitl [Hs]; · iexact Hs
    iexact Hp
  isplitl [Ho]; · iexact Ho
  isplitl [Hst]; · iexact Hst
  iexact Hout

theorem staged_one (c : Dev nD) (b : Ref sig .tc) (X : b.ty.Contents (Elt F)) :
    (owns (Ix := Unit) (Name := ℕ) (U := UU) (Lvl := ℕ) (c : Thread nD τ) (Memref.whole b) fullShare X : sProp 𝕄) = allPt c b X :=
  owns_whole (c : Thread nD τ) b fullShare X

/-- A staging buffer a window fetched into. -/
theorem found (c : Dev nD) (b : Ref sig .tc) {D : Type} (Y : D → b.ty.Contents (Elt F)) (X : b.ty.Contents (Elt F)) (h : ∀ d, Y d = X) :
    (iprop(∃ d, owns (Ix := Unit) (Name := ℕ) (U := UU) (Lvl := ℕ) (c : Thread nD τ) (Memref.whole b) fullShare (Y d)) : sProp 𝕄) ⊢ allPt c b X := by
  iintro ⟨%d, H⟩
  iapply (Entails.of_eq ((congrArg (fun Z => (owns (Ix := Unit) (Name := ℕ) (U := UU) (Lvl := ℕ) (c : Thread nD τ) (Memref.whole b) fullShare Z : sProp 𝕄)) (h d)).trans
    (staged_one c b X)))
  iexact H

theorem body_whole (c : Dev nD) :
    iprop(bodyPre m c ∗ (dat m c).owesAt () t0_0.castSucc
        ∗ (∃ d, owns (c : Thread nD τ) (Memref.whole cc0_stg0_0) fullShare ((dat m c).before 0 t0_0 d))
        ∗ (∃ d, owns (c : Thread nD τ) (Memref.whole cc0_stg1_0) fullShare ((dat m c).before 1 t0_0 d))
        ∗ (∃ d, owns (c : Thread nD τ) (Memref.whole cc0_stg2_0) fullShare ((dat m c).before 2 t0_0 d))
        ∗ (∃ d, owns (c : Thread nD τ) (Memref.whole cc0_stg3_0) fullShare ((dat m c).before 3 t0_0 d))
        ∗ (∃ d, owns (c : Thread nD τ) (Memref.whole cc0_stg4_0) fullShare ((dat m c).before 4 t0_0 d))
        ∗ ∃ d, owns (c : Thread nD τ) (Memref.whole cc0_stg5_0) fullShare ((dat m c).before 5 t0_0 d))
      ⊢ wpc c (theBody (F := F)) fun _ =>
        iprop(bodyPost c ∗ (dat m c).owesAt () t0_0.succ
          ∗ owns (c : Thread nD τ) (Memref.whole cc0_stg0_0) fullShare (given m c).x
          ∗ owns (c : Thread nD τ) (Memref.whole cc0_stg1_0) fullShare (given m c).wq
          ∗ owns (c : Thread nD τ) (Memref.whole cc0_stg2_0) fullShare (given m c).k
          ∗ owns (c : Thread nD τ) (Memref.whole cc0_stg3_0) fullShare (given m c).v
          ∗ owns (c : Thread nD τ) (Memref.whole cc0_stg4_0) fullShare (given m c).wo
          ∗ owns (c : Thread nD τ) (Memref.whole cc0_stg5_0) fullShare (result (given m))) := by
  iintro ⟨Hpre, Ho, H0, H1, H2, H3, H4, ⟨%d, H5⟩⟩
  ihave Ho := (owes_out m c) $$ Ho
  ihave H0 := (found c cc0_stg0_0 _ _ (before0 m c)) $$ H0
  ihave H1 := (found c cc0_stg1_0 _ _ (before1 m c)) $$ H1
  ihave H2 := (found c cc0_stg2_0 _ _ (before2 m c)) $$ H2
  ihave H3 := (found c cc0_stg3_0 _ _ (before3 m c)) $$ H3
  ihave H4 := (found c cc0_stg4_0 _ _ (before4 m c)) $$ H4
  ihave H5 := (Entails.of_eq (staged_one c cc0_stg5_0 _)) $$ H5
  iapply (run_closed m c _ _)
  isplitl [Hpre]; · iexact Hpre
  isplitl [Ho]; · iexact Ho
  isplitl [H0 H1 H2 H3 H4]
  · unfold staged
    isplitl [H0]; · iexact H0
    isplitl [H1]; · iexact H1
    isplitl [H2]; · iexact H2
    isplitl [H3]; · iexact H3
    iexact H4
  isplitl [H5]; · iexact H5
  unfold staged
  iintro ⟨Hpost, Ho, ⟨H0, H1, H2, H3, H4⟩, H5⟩
  isplitl [Hpost]; · iexact Hpost
  isplitl [Ho]; · iapply (owes_in m c); iexact Ho
  isplitl [H0]; · iapply (Entails.of_eq (staged_one c cc0_stg0_0 _).symm); iexact H0
  isplitl [H1]; · iapply (Entails.of_eq (staged_one c cc0_stg1_0 _).symm); iexact H1
  isplitl [H2]; · iapply (Entails.of_eq (staged_one c cc0_stg2_0 _).symm); iexact H2
  isplitl [H3]; · iapply (Entails.of_eq (staged_one c cc0_stg3_0 _).symm); iexact H3
  isplitl [H4]; · iapply (Entails.of_eq (staged_one c cc0_stg4_0 _).symm); iexact H4
  iapply (Entails.of_eq (staged_one c cc0_stg5_0 _).symm); iexact H5

theorem body (c : Dev nD) : BodyObligation (dat m c) defs₀ 𝒱₀ () Set.univ := fun t => by
  obtain rfl := fin_N0 t
  rw [bigSep_W0, bigSep_W0]
  rw [state_first, state_last]
  exact body_whole m c

/-! ## The record of the region -/

def pdats : (p : Fin 1) → (c : Dev nD) → Dat τ (Elt F) Unit ℕ UU ℕ (cfgs p) c
  | 0 => dat m

/-- What a device carries into the region and out of it. -/
def carried (c : Dev nD) : sProp 𝕄 := iprop((∃ K, ghost (given m) K c) ∗ credits c)
def closed (c : Dev nD) : sProp 𝕄 := semVal (barCell c) 0

theorem region_open (c : Dev nD) :
    iprop(carried m c ∗ Pipeline.ownSems0 osem c ∗ levAts L lv) ⊢ (|={Set.univ}=> enter m c : sProp 𝕄) := by
  unfold carried enter
  rw [own_eq]
  iintro ⟨⟨Hg, Hc⟩, Hv, Hl⟩
  imod (opening (given m) c) $$ [Hg Hv Hl] with H
  · isplitl [Hg]; · iexact Hg
    isplitl [Hv]; · iexact Hv
    iexact Hl
  imodintro
  isplitl [H]; · iexact H
  iexact Hc

theorem held_none (c : Dev nD) (V : Valuation τ sig (Elt F)) : (StableHlo.held (c.tc : Thread nD τ) ∅ V : sProp 𝕄) = iprop(emp) := by
  unfold StableHlo.held; exact bigSep_empty

theorem region_in (c : Dev nD) :
    iprop(Pipeline.scopedRest spec0 c ∗ (∃ r, prngReg c r) ∗ StableHlo.held (c.tc : Thread nD τ) ∅ (V1 m c) ∗ enter m c)
      ⊢ (dat m c).Φ t0_0.castSucc := by
  rw [state_first, scopedRest0_eq, held_none]
  unfold bodyPre scratches
  iintro ⟨Hs, Hp, -, HX⟩
  isplitl [HX]; · iexact HX
  isplitl [Hs]; · iexact Hs
  iexact Hp
theorem region_out (c : Dev nD) :
    (dat m c).Φ t0_0.succ ⊢ iprop(Pipeline.scopedRest spec0 c ∗ (∃ r, prngReg c r) ∗ StableHlo.held (c.tc : Thread nD τ) ∅ (left m c)
      ∗ Pipeline.ownSems0 osem c ∗ closed c) := by
  rw [state_last, scopedRest0_eq, held_none]
  unfold bodyPost scratches closed
  iintro ⟨Hb, Hv, Hs, Hp⟩
  isplitl [Hs]; · iexact Hs
  isplitl [Hp]; · iexact Hp
  isplitr; · iempintro
  isplitl [Hv]; · iexact Hv
  iexact Hb

theorem owed_above (c : Dev nD) (t : Fin (cfg0.N + 1)) (g : GSem nD τ sig) (u : Unit) (h : 0 < (dat m c).owed t g u) :
    u ∈ L g ∧ (0 : ℕ) < lv g u := by
  have e : (dat m c).owed t = if t.val = 0 then owed c 0 0 0 else 0 := rfl
  rw [e] at h
  split at h
  · rcases owed_pos h with ⟨d, -, rfl⟩ | ⟨d, -, rfl⟩ | ⟨d, -, rfl⟩
    · exact ⟨by rw [L_tc]; exact Finset.mem_singleton_self _, by rw [lv_bar]; decide⟩
    · exact ⟨by rw [L_tc]; exact Finset.mem_singleton_self _, by rw [lv_copy]; decide⟩
    · exact ⟨by rw [L_tc]; exact Finset.mem_singleton_self _, by rw [lv_copy]; decide⟩
  · exact absurd h (Nat.lt_irrefl 0)

theorem staging_low (c : Dev nD) (w : Fin cfg0.W) (s : Fin (cfg0.win w).nbuf) :
    lv ((c : Thread nD τ), .dma ((cfg0.win w).sem s)) () ≤ 0 := by
  have hk : ∀ (w : Fin cfg0.W) (s : Fin (cfg0.win w).nbuf), kind (.dma ((cfg0.win w).sem s)) = none := by decide +kernel
  dsimp only [lv]
  rw [if_neg (dma_ne_bar _), hk w s]

theorem left_of (c : Dev nD) (r : Ref sig .tc) (h : r ≠ main_v19) : left m c r = V1 m c r :=
  Function.update_of_ne (StableHlo.devRef_ne_of_ne h) _ _

theorem left_out (c : Dev nD) : left m c main_v19 = result (given m) := by unfold left; exact Function.update_self _ _ _

theorem full (c : Dev nD) (w : Fin cfg0.W) : (dat m c).share w = fullShare := by
  unfold Dat.share; split <;> rfl

theorem ends (c : Dev nD) (w : Fin cfg0.W) :
    (dat m c).arrAt w cfg0.N = left m c (Proc.devRef .tc (Pipeline.arrRef spec0 w)) := by
  match w with
  | ⟨0, _⟩ => exact ((dat m c).arrAt_in 0 rfl _).trans (left_of m c main_arg0 (by decide)).symm
  | ⟨1, _⟩ => exact ((dat m c).arrAt_in 1 rfl _).trans (left_of m c main_arg1 (by decide)).symm
  | ⟨2, _⟩ => exact ((dat m c).arrAt_in 2 rfl _).trans (left_of m c main_v16 (by decide)).symm
  | ⟨3, _⟩ => exact ((dat m c).arrAt_in 3 rfl _).trans (left_of m c main_v18 (by decide)).symm
  | ⟨4, _⟩ => exact ((dat m c).arrAt_in 4 rfl _).trans (left_of m c main_arg4 (by decide)).symm
  | ⟨5, _⟩ => exact (out_end m c).trans (left_out m c).symm

/-- The buffers the kernel does not name. -/
abbrev others : Finset (DevRef τ sig) := Pipeline.ucRefs τ sig \ Pipeline.arrRefs spec0

theorem others_kept (c : Dev nD) : ∀ b ∈ others \ ∅, left m c b = V1 m c b := fun b hb => by
  refine Function.update_of_ne (fun e => ?_) _ _
  subst e
  refine (Finset.mem_sdiff.mp (Finset.mem_sdiff.mp hb).1).2 ?_
  exact Finset.mem_map_of_mem _ (Finset.mem_image.mpr ⟨(5 : Fin 6), Finset.mem_univ _, rfl⟩)

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ others (Finset.empty_subset _) launch0.toP rfl (fun c => (body m c).loose)
    (fun _ => 0) (fun c => owed c 0 0 0) (fun c => (owed_first m c).trans (zero_add _).symm) (owed_last m) (fun _ => rfl) (full m)
    (V1 m) (left m) (others_kept m)
    (carried m) closed (enter m) closed (region_open m) (region_in m) (region_out m)
    (fun c => by iintro H; imodintro; iexact H)
    (fun _ => 0)
    ⟨fun c w s => by rw [L_tc]; exact Finset.mem_singleton_self _, fun c w s => staging_low c w s, fun c t g i h => owed_above m c t g i h⟩
    (fun _ => iprop(emp))
    (fun _ _ => rfl) (ends m)

end Cert.KernelIdeal.Talk
-- ==== Proof.Talk.Launch.lean ====
module

public import proofs.«01_k».proof.Proof.Talk.Region

@[expose] public section

noncomputable section

/-!
# The launch

The cells' schedules are set up for all devices at once, each duty's token is dealt to the device that
pays it, and each device gets the credits of what the others will send it.
-/

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

theorem barCell_inj : Function.Injective barCell := fun _ _ h => congrArg (fun g : GSem nD τ sig => g.1.1) h
theorem dCell_inj : Function.Injective fun p : Dev nD × Fin 4 × Fin 7 => dCell p.1 p.2.1 p.2.2 := fun _ _ h =>
  Prod.ext (congrArg (fun g : GSem nD τ sig => g.1.1) h) (osem_inj (congrArg Prod.snd h))
theorem dCell_ne_bar (c c' : Dev nD) (k : Fin 4) (d : Fin 7) : dCell c k d ≠ barCell c' := fun h => dma_ne_bar _ (congrArg Prod.snd h)

def barEmb : Dev nD ↪ GSem nD τ sig := ⟨barCell, barCell_inj⟩
def copyEmb : Dev nD × Fin 4 × Fin 7 ↪ GSem nD τ sig := ⟨fun p => dCell p.1 p.2.1 p.2.2, dCell_inj⟩
def barTok : Dev nD × Fin 7 ↪ GSem nD τ sig × ℕ × Fin 7 :=
  ⟨fun p => (barCell p.1, 0, p.2), fun _ _ h => Prod.ext (barCell_inj (congrArg Prod.fst h)) (congrArg (fun t => t.2.2) h)⟩
def copyTok : Dev nD × Fin 4 × Fin 7 ↪ GSem nD τ sig × ℕ × Fin 7 :=
  ⟨fun p => (dCell p.1 p.2.1 p.2.2, 0, 0), fun _ _ h => dCell_inj (congrArg Prod.fst h)⟩

abbrev barCells : Finset (GSem nD τ sig) := Finset.univ.map barEmb
abbrev copyCells : Finset (GSem nD τ sig) := Finset.univ.map copyEmb
def tokens : Finset (GSem nD τ sig × ℕ × Fin 7) := Finset.univ.map barTok ∪ Finset.univ.map copyTok

theorem cells_apart : Disjoint (barCells : Finset (GSem nD τ sig)) copyCells := by
  rw [Finset.disjoint_left]
  rintro g h₁ h₂
  obtain ⟨c, -, rfl⟩ := Finset.mem_map.mp h₁
  obtain ⟨p, -, h⟩ := Finset.mem_map.mp h₂
  exact dCell_ne_bar _ _ _ _ h
theorem tokens_apart : Disjoint ((Finset.univ : Finset (Dev nD × Fin 7)).map barTok) (Finset.univ.map copyTok) := by
  rw [Finset.disjoint_left]
  rintro g h₁ h₂
  obtain ⟨c, -, rfl⟩ := Finset.mem_map.mp h₁
  obtain ⟨p, -, h⟩ := Finset.mem_map.mp h₂
  exact dCell_ne_bar _ _ _ _ (congrArg Prod.fst h)

/-! ## Dealing among the devices -/

theorem swapped (Φ : Dev nD → Fin 7 → sProp 𝕄) :
    (bigSep Finset.univ fun c : Dev nD => bigSep Finset.univ fun d : Fin 7 => Φ c d)
      = bigSep Finset.univ fun d : Fin 7 => bigSep Finset.univ fun c : Dev nD => Φ c d := by
  rw [← bigSep_univ_prod fun p : Dev nD × Fin 7 => Φ p.1 p.2, bigSep_univ_equiv (Equiv.prodComm (Fin 7) (Dev nD)), bigSep_univ_prod]
  rfl

/-- A family over devices and exchanges, handed on to the partner of each exchange. -/
theorem turned (Φ : Dev nD → Fin 7 → sProp 𝕄) :
    (bigSep Finset.univ fun c : Dev nD => bigSep Finset.univ fun d : Fin 7 => Φ c d)
      = bigSep Finset.univ fun c : Dev nD => bigSep Finset.univ fun d : Fin 7 => Φ (nb c d) d := by
  rw [swapped, swapped fun (c : Dev nD) (d : Fin 7) => Φ (nb c d) d]
  exact bigSep_congr fun d _ => bigSep_univ_equiv (turn d) fun c => Φ c d

theorem bar_dealt :
    (bigSep Finset.univ fun c : Dev nD => bigSep Finset.univ fun e : Fin 7 => (dutyTok ER (barCell c) 0 e : sProp 𝕄))
      = bigSep Finset.univ fun c : Dev nD => bigSep Finset.univ fun d : Fin 7 => dutyTok ER (barCell (nb c d)) 0 (rev d) := by
  rw [← turned fun c d => (dutyTok ER (barCell c) 0 (rev d) : sProp 𝕄)]
  exact bigSep_congr fun c _ => bigSep_univ_equiv revs fun e => (dutyTok ER (barCell c) 0 e : sProp 𝕄)

theorem hands_of :
    bigSep tokens (fun x => (dutyTok ER x.1 x.2.1 x.2.2 : sProp 𝕄))
      = bigSep Finset.univ fun c : Dev nD => bigSep Finset.univ fun d : Fin 7 => hand c d := by
  unfold tokens hand
  rw [bigSep_union tokens_apart, bigSep_map, bigSep_map, bigSep_univ_prod, bigSep_univ_prod]
  have e1 : (bigSep Finset.univ fun c : Dev nD => bigSep Finset.univ fun p : Fin 4 × Fin 7 => (dutyTok ER (dCell c p.1 p.2) 0 0 : sProp 𝕄))
      = iprop((bigSep Finset.univ fun c : Dev nD => bigSep Finset.univ fun d : Fin 7 => dutyTok ER (dCell c 0 d) 0 0)
        ∗ (bigSep Finset.univ fun c : Dev nD => bigSep Finset.univ fun d : Fin 7 => dutyTok ER (dCell (nb c d) 1 d) 0 0)
        ∗ (bigSep Finset.univ fun c : Dev nD => bigSep Finset.univ fun d : Fin 7 => dutyTok ER (dCell c 2 d) 0 0)
        ∗ bigSep Finset.univ fun c : Dev nD => bigSep Finset.univ fun d : Fin 7 => dutyTok ER (dCell (nb c d) 3 d) 0 0) := by
    rw [← turned fun c d => (dutyTok ER (dCell c 1 d) 0 0 : sProp 𝕄), ← turned fun c d => (dutyTok ER (dCell c 3 d) 0 0 : sProp 𝕄),
      bigSep_congr fun c _ => by_kind fun k d => (dutyTok ER (dCell c k d) 0 0 : sProp 𝕄),
      bigSep_sep', bigSep_sep', bigSep_sep']
  rw [bigSep_congr fun c _ => show (bigSep Finset.univ fun d : Fin 7 => iprop(dutyTok ER (barCell (nb c d)) 0 (rev d) ∗ dutyTok ER (dCell c 0 d) 0 0
      ∗ dutyTok ER (dCell (nb c d) 1 d) 0 0 ∗ dutyTok ER (dCell c 2 d) 0 0 ∗ dutyTok ER (dCell (nb c d) 3 d) 0 0) : sProp 𝕄)
      = iprop((bigSep Finset.univ fun d : Fin 7 => dutyTok ER (barCell (nb c d)) 0 (rev d))
        ∗ (bigSep Finset.univ fun d : Fin 7 => dutyTok ER (dCell c 0 d) 0 0)
        ∗ (bigSep Finset.univ fun d : Fin 7 => dutyTok ER (dCell (nb c d) 1 d) 0 0)
        ∗ (bigSep Finset.univ fun d : Fin 7 => dutyTok ER (dCell c 2 d) 0 0)
        ∗ bigSep Finset.univ fun d : Fin 7 => dutyTok ER (dCell (nb c d) 3 d) 0 0) from by
      rw [bigSep_sep', bigSep_sep', bigSep_sep', bigSep_sep']]
  rw [bigSep_sep', bigSep_sep', bigSep_sep', bigSep_sep', ← bar_dealt]
  exact congrArg (fun X => iprop((bigSep Finset.univ fun c : Dev nD => bigSep Finset.univ fun e : Fin 7 => (dutyTok ER (barCell c) 0 e : sProp 𝕄)) ∗ X)) e1

/-! ## The credits -/

theorem owed_at (c : Dev nD) (g : GSem nD τ sig) :
    owed c 0 0 0 g () = (∑ d : Fin 7, tallyAt (barCell (nb c d)) () 1 g ()) + (∑ d : Fin 7, tallyAt (dCell (nb c d) 1 d) () N g ())
      + ∑ d : Fin 7, tallyAt (dCell (nb c d) 3 d) () N g () := by
  have all : ∀ f : Fin 7 → CellTallies nD τ sig Unit, ((Finset.univ.filter fun d : Fin 7 => 0 ≤ d.val).sum f) g () = ∑ d, f d g () := fun f => by
    rw [show (Finset.univ.filter fun d : Fin 7 => 0 ≤ d.val) = Finset.univ from by decide]
    exact (DFunLike.congr_fun (Finset.sum_apply g Finset.univ f) ()).trans (Finsupp.finset_sum_apply _ _ _)
  unfold owed
  rw [← all, ← all, ← all]
  rfl

/-- What all devices owe at one cell. -/
theorem owed_all (g : GSem nD τ sig) :
    (∑ c : Dev nD, owed c 0 0 0 g ()) = (∑ d : Fin 7, ∑ c : Dev nD, tallyAt (barCell c) () 1 g ())
      + (∑ d : Fin 7, ∑ c : Dev nD, tallyAt (dCell c 1 d) () N g ()) + ∑ d : Fin 7, ∑ c : Dev nD, tallyAt (dCell c 3 d) () N g () := by
  have turn_sum : ∀ f : Dev nD → Fin 7 → ℕ, (∑ c : Dev nD, ∑ d : Fin 7, f (nb c d) d) = ∑ d : Fin 7, ∑ c : Dev nD, f c d := fun f => by
    rw [Finset.sum_comm]
    exact Finset.sum_congr rfl fun d _ => Equiv.sum_comp (turn d) fun c => f c d
  rw [Finset.sum_congr rfl fun c _ => owed_at c g, Finset.sum_add_distrib, Finset.sum_add_distrib,
    turn_sum fun c _ => tallyAt (barCell c) () 1 g (), turn_sum fun c d => tallyAt (dCell c 1 d) () N g (),
    turn_sum fun c d => tallyAt (dCell c 3 d) () N g ()]

theorem tally_bar (c c' : Dev nD) : tallyAt (barCell c') () 1 (barCell c) () = if c' = c then 1 else 0 := by
  rw [tallyAt_apply]
  by_cases h : c' = c
  · subst h; rw [if_pos ⟨rfl, rfl⟩, if_pos rfl]
  · rw [if_neg fun e => h (barCell_inj e.1).symm, if_neg h]
theorem tally_copy (c c' : Dev nD) (k k' : Fin 4) (d d' : Fin 7) :
    tallyAt (dCell c' k' d') () N (dCell c k d) () = if k' = k then (if d' = d then (if c' = c then N else 0) else 0) else 0 := by
  rw [tallyAt_apply]
  have h := fun e : dCell c k d = dCell c' k' d' => @dCell_inj (c, k, d) (c', k', d') e
  by_cases h1 : k' = k
  · by_cases h2 : d' = d
    · by_cases h3 : c' = c
      · subst h1 h2 h3; rw [if_pos ⟨rfl, rfl⟩, if_pos rfl, if_pos rfl, if_pos rfl]
      · rw [if_neg fun e => h3 (congrArg (fun p => p.1) (h e.1)).symm, if_pos h1, if_pos h2, if_neg h3]
    · rw [if_neg fun e => h2 (congrArg (fun p => p.2.2) (h e.1)).symm, if_pos h1, if_neg h2]
  · rw [if_neg fun e => h1 (congrArg (fun p => p.2.1) (h e.1)).symm, if_neg h1]
theorem tally_bar_copy (c c' : Dev nD) (k : Fin 4) (d : Fin 7) : tallyAt (barCell c') () 1 (dCell c k d) () = 0 := by
  rw [tallyAt_apply, if_neg fun e => dCell_ne_bar _ _ _ _ e.1]
theorem tally_copy_bar (c c' : Dev nD) (k : Fin 4) (d : Fin 7) : tallyAt (dCell c' k d) () N (barCell c) () = 0 := by
  rw [tallyAt_apply, if_neg fun e => dCell_ne_bar _ _ _ _ e.1.symm]

theorem total_bar (c : Dev nD) : (∑ c' : Dev nD, owed c' 0 0 0 (barCell c) ()) = 7 := by
  rw [owed_all]
  simp only [tally_bar, tally_copy_bar, Finset.sum_ite_eq', Finset.mem_univ, if_true, Finset.sum_const_zero, Finset.sum_const, Finset.card_univ,
    Fintype.card_fin, smul_eq_mul, mul_one, add_zero]
theorem total_copy (c : Dev nD) (k : Fin 4) (hk : k = 1 ∨ k = 3) (d : Fin 7) : (∑ c' : Dev nD, owed c' 0 0 0 (dCell c k d) ()) = N := by
  rw [owed_all]
  rcases hk with rfl | rfl <;>
    simp [tally_copy, tally_bar_copy, Finset.sum_ite_eq', Finset.mem_univ]

theorem credit_bar (c : Dev nD) :
    tallyOn (barCell c) (launchCredit (Pipeline.owing fun c => owed c 0 0 0) 0 (barCell c)) = (tallyAt (barCell c) () 7 : CellTallies nD τ sig Unit) := by
  unfold tallyAt; refine congrArg _ (Finsupp.ext fun u => ?_); cases u
  rw [Pipeline.launchCredit_owing, Finsupp.single_eq_same, total_bar]
theorem credit_copy (c : Dev nD) (k : Fin 4) (hk : k = 1 ∨ k = 3) (d : Fin 7) :
    tallyOn (dCell c k d) (launchCredit (Pipeline.owing fun c => owed c 0 0 0) 0 (dCell c k d)) = (tallyAt (dCell c k d) () N : CellTallies nD τ sig Unit) := by
  unfold tallyAt; refine congrArg _ (Finsupp.ext fun u => ?_); cases u
  rw [Pipeline.launchCredit_owing, Finsupp.single_eq_same, total_copy c k hk]

theorem credits_of (c : Dev nD) : (Pipeline.launchCred (fun c => owed c 0 0 0) c : sProp 𝕄) ⊢ credits c := by
  unfold Pipeline.launchCred credits sent
  have hsub : (Finset.univ : Finset (Fin 4 × Fin 7)).map ⟨osem, osem_inj⟩ ⊆ Finset.univ.erase (SemLoc.reg barrier0) := fun x hx => by
    obtain ⟨p, -, rfl⟩ := Finset.mem_map.mp hx
    exact Finset.mem_erase.mpr ⟨dma_ne_bar _, Finset.mem_univ _⟩
  rw [bigSep_univ_at _ (SemLoc.reg barrier0), credit_bar]
  refine sep_mono_right ((bigSep_subset hsub).trans ?_)
  rw [bigSep_map]
  refine (Entails.of_eq (by_kind fun k d => cred (tallyOn (dCell c k d) (launchCredit (Pipeline.owing fun c => owed c 0 0 0) 0 (dCell c k d))))).trans ?_
  rw [bigSep_congr fun d _ => congrArg cred (credit_copy c 1 (.inl rfl) d), bigSep_congr fun d _ => congrArg cred (credit_copy c 3 (.inr rfl) d)]
  iintro ⟨-, H1, -, H3⟩
  isplitl [H1]; · iexact H1
  iexact H3

end Cert.KernelIdeal.Talk
-- ==== Proof.Talk.Run.lean ====
module

public import proofs.«01_k».proof.Proof.Talk.Launch

@[expose] public section

noncomputable section

/-!
# The run of all devices

From any memory, with all counters at zero: the run ends, the arguments are unchanged, every device holds
`result` of the arrays its kernel was given, and all counters are back at zero.
-/

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state of the launch -/

/-- One resource, left with device 0. -/
def parked (X : sProp 𝕄) (c : Dev nD) : sProp 𝕄 := if c = 0 then X else iprop(emp)
theorem parked_all (X : sProp 𝕄) : bigSep Finset.univ (parked X) = X := by
  have h1 : ∀ c ∈ Finset.univ.erase (0 : Dev nD), parked X c = (BI.emp : sProp 𝕄) := fun c hc => by
    unfold parked; exact if_neg (Finset.ne_of_mem_erase hc)
  have h0 : bigSep (Finset.univ.erase (0 : Dev nD)) (parked X) = (BI.emp : sProp 𝕄) := (bigSep_congr h1).trans (by rw [BI.bigSep_emp_const])
  rw [bigSep_univ_at _ (0 : Dev nD), h0]
  unfold parked
  rw [if_pos rfl]
  exact BI.equiv_iff.mp sep_emp

def talkLaunch : UU := (initOf (Pipeline.cells cfgs cellOf_inj) (Pipeline.launchToks cfgs cellOf_inj), launchOf barCells copyCells tokens)
def parkedTalk : Dev nD → sProp 𝕄 := parked (BI.own (ER (launchOf barCells copyCells tokens)))

theorem ghost_launch : (ownU talkLaunch : sProp 𝕄)
    ⊢ |={Set.univ}=> iprop(BI.own (EP (initOf (Pipeline.cells cfgs cellOf_inj) (Pipeline.launchToks cfgs cellOf_inj))) ∗ bigSep Finset.univ (parkedTalk (F := F))) := by
  unfold talkLaunch parkedTalk
  rw [parked_all]
  iintro Hu
  ihave H := (ownU_pair _ _) $$ Hu
  icases H with ⟨HP, HX⟩
  imodintro
  isplitl [HP]; · iexact HP
  iexact HX

/-- What rides along while the host part runs. -/
def rest (_ : Fin 2) (c : Dev nD) : sProp 𝕄 :=
  iprop(carried m c ∗ (∃ r, prngReg c r) ∗ ∃ W, owes (c.tc : Thread nD τ) (owed c 0 0 0) W)

/-- What all devices know of the cells. -/
def records (κ : GSem nD τ sig → ℕ) : sProp 𝕄 := iprop(invs (given m) κ ∗ barsOpen)
instance records_persistent (κ : GSem nD τ sig → ℕ) : BI.Persistent (records m κ) := by unfold records; infer_instance

/-- A device's own ghost state. -/
def own (c : Dev nD) : sProp 𝕄 :=
  iprop(atPos ER (barCell c) 0 ∅ 0 ∗ (bigSep Finset.univ fun p : Fin 4 × Fin 7 => openTok ER (dCell c p.1 p.2)) ∗ bigSep Finset.univ fun d => hand c d)

theorem carried_of (κ : GSem nD τ sig → ℕ) (c : Dev nD) : iprop(records m κ ∗ (own c ∗ credits c)) ⊢ (carried m c : sProp 𝕄) := by
  unfold records own carried ghost
  iintro ⟨⟨#HI, #HB⟩, ⟨Ha, Ho, Hh⟩, Hc⟩
  isplitr [Hc]
  · iexists κ
    isplitr; · iexact HI
    isplitr; · iexact HB
    isplitl [Ha]; · iexact Ha
    isplitl [Ho]; · iexact Ho
    iexact Hh
  iexact Hc

theorem invs_of (κ : GSem nD τ sig → ℕ) :
    bigSep (barCells ∪ copyCells) (fun g => cellInv ER (talk (given m)) (κ g) g) = (invs (given m) κ : sProp 𝕄) := by
  rw [bigSep_union cells_apart, bigSep_map, bigSep_map]; rfl

theorem ghosts :
    iprop((bigSep Finset.univ fun c : Dev nD => (semVal (barCell c) 0 : sProp 𝕄)) ∗ (bigSep Finset.univ (parkedTalk (F := F)))
      ∗ bigSep Finset.univ fun c : Dev nD => (credits c : sProp 𝕄))
      ⊢ |={Set.univ}=> bigSep Finset.univ fun c : Dev nD => carried m c := by
  unfold parkedTalk
  rw [parked_all]
  iintro ⟨Hv, Hu, Hc⟩
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hr : bigSep barCells (fun g => (reached ER g 0 : sProp 𝕄)) ⊢ barsOpen :=
    Entails.of_eq (bigSep_map (s := Finset.univ) barEmb (Φ := fun g : GSem nD τ sig => (reached ER g 0 : sProp 𝕄)))
  have ha : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep copyCells (fun g => (openTok ER g : sProp 𝕄))
      ⊢ bigSep Finset.univ (fun c : Dev nD => bigSep Finset.univ fun p : Fin 4 × Fin 7 => openTok ER (dCell c p.1 p.2)) :=
    Entails.of_eq (by rw [bigSep_map, bigSep_univ_prod]; rfl)
  imod (Rounds.fund_launch ER (talk (given m)) cells_apart (fun g _ h => h) tokens) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(own c ∗ credits c)) fun c _ => carried_of m κ c)
  isplitr
  · unfold records
    isplitr
    · iapply (Entails.of_eq (invs_of m κ)) $$ Hinv
    · iapply hr $$ Hr
  iapply paired
  isplitr [Hc]
  · unfold own
    iapply paired; isplitl [Hat]; · iapply ha $$ Hat
    iapply paired; isplitl [Hopen]; · iapply ho $$ Hopen
    iapply (Entails.of_eq (hands_of (F := F))) $$ Htok
  · iexact Hc

theorem unscoped_eq : ∀ sm : SemLoc sig, sm.isScoped .tc = false → sm = .reg barrier0 := by decide
theorem counters_eq (c : Dev nD) : (unscopedSems0 c : sProp 𝕄) = semVal (barCell c) 0 := by
  unfold unscopedSems0
  rw [show (Finset.univ.filter fun sm : SemLoc sig => ¬ sm.isScoped .tc) = {SemLoc.reg barrier0} from by decide, bigSep_singleton]

abbrev before (c : Dev nD) : sProp 𝕄 := iprop(StableHlo.held (c.tc : Thread nD τ) (Pipeline.ucRefs τ sig) (V0 m c) ∗ rest m 0 c)
abbrev after (c : Dev nD) : sProp 𝕄 := iprop(StableHlo.held (c.tc : Thread nD τ) (Pipeline.ucRefs τ sig) (left m c) ∗ closed c)

/-- What of a device's launch is not ghost state. -/
def kept (c : Dev nD) : sProp 𝕄 :=
  iprop(StableHlo.held (c.tc : Thread nD τ) (Pipeline.ucRefs τ sig) (V0 m c) ∗ (∃ r, prngReg c r) ∗ ∃ W, owes (c.tc : Thread nD τ) (owed c 0 0 0) W)

theorem launch_one (c : Dev nD) :
    iprop(unscopedBufs c (fun b => m ((c.tc : Thread nD τ).loc b)) ∗ unscopedSems0 c
        ∗ owes (c.tc : Thread nD τ) (owed c 0 0 0) ∅ ∗ Pipeline.launchCred (fun c => owed c 0 0 0) c ∗ prngReg c (ρ c) ∗ parkedTalk (F := F) c)
      ⊢ (iprop(kept m c ∗ (semVal (barCell c) 0 ∗ (parkedTalk (F := F) c ∗ credits c))) : sProp 𝕄) := by
  rw [show (unscopedBufs c (fun b => m ((c.tc : Thread nD τ).loc b)) : sProp 𝕄) = StableHlo.held (c.tc : Thread nD τ) (Pipeline.ucRefs τ sig) (V0 m c)
      from Pipeline.unscopedBufs_held c (V0 m c), counters_eq]
  unfold kept
  iintro ⟨Hh, Hs, HO, Hcr, Hp, HG⟩
  ihave Hc := (credits_of (F := F) c) $$ Hcr
  isplitl [Hh HO Hp]
  · isplitl [Hh]; · iexact Hh
    isplitl [Hp]; · iexists (ρ c); iexact Hp
    iexists ∅; iexact HO
  isplitl [Hs]; · iexact Hs
  isplitl [HG]; · iexact HG
  iexact Hc

theorem before_of (c : Dev nD) : iprop(kept m c ∗ carried m c) ⊢ (before m c : sProp 𝕄) := by
  unfold before kept rest
  iintro ⟨⟨Hh, Hp, HO⟩, Hc⟩
  isplitl [Hh]; · iexact Hh
  isplitl [Hc]; · iexact Hc
  isplitl [Hp]; · iexact Hp
  iexact HO

theorem launched :
    iprop((bigSep Finset.univ fun c : Dev nD => iprop(unscopedBufs c (fun b => m ((c.tc : Thread nD τ).loc b)) ∗ unscopedSems0 c
          ∗ owes (c.tc : Thread nD τ) (owed c 0 0 0) ∅ ∗ Pipeline.launchCred (fun c => owed c 0 0 0) c ∗ prngReg c (ρ c) ∗ parkedTalk (F := F) c)) ∗ levAts L lv)
      ⊢ (|={Set.univ}=> bigSep Finset.univ (before m) : sProp 𝕄) := by
  have all : (bigSep Finset.univ fun c : Dev nD => iprop(unscopedBufs c (fun b => m ((c.tc : Thread nD τ).loc b)) ∗ unscopedSems0 c
          ∗ owes (c.tc : Thread nD τ) (owed c 0 0 0) ∅ ∗ Pipeline.launchCred (fun c => owed c 0 0 0) c ∗ prngReg c (ρ c) ∗ parkedTalk (F := F) c))
      ⊢ (bigSep Finset.univ fun c : Dev nD => iprop(kept m c ∗ (semVal (barCell c) 0 ∗ (parkedTalk (F := F) c ∗ credits c))) : sProp 𝕄) :=
    bigSep_mono fun c _ => launch_one m ρ c
  have back : (bigSep Finset.univ fun c : Dev nD => iprop(kept m c ∗ carried m c)) ⊢ (bigSep Finset.univ (before m) : sProp 𝕄) :=
    bigSep_mono fun c _ => before_of m c
  iintro ⟨H, -⟩
  ihave H := all $$ H
  ihave H := taken $$ H; icases H with ⟨HK, H⟩
  ihave H := taken $$ H; icases H with ⟨Hv, H⟩
  ihave H := taken $$ H; icases H with ⟨HG, HC⟩
  imod (ghosts m) $$ [Hv HG HC] with HR
  · isplitl [Hv]; · iexact Hv
    isplitl [HG]; · iexact HG
    iexact HC
  imodintro
  iapply back
  iapply paired
  isplitl [HK]; · iexact HK
  iexact HR

/-! ## Into the region and out of it -/

theorem arrays_named : Pipeline.arrRefs (τ := τ) spec0 ⊆ Pipeline.ucRefs τ sig :=
  Pipeline.arrRefs_sub_ucRefs spec0 (by decide)

theorem into_region (c : Dev nD) :
    iprop(StableHlo.held (c.tc : Thread nD τ) (Pipeline.ucRefs τ sig) (V1 m c) ∗ rest m 0 c) ⊢ ((region m).pre c : sProp 𝕄) := by
  show _ ⊢ (iprop(StableHlo.held (c.tc : Thread nD τ) (Pipeline.arrRefs (τ := τ) spec0) (V1 m c) ∗ (∃ r, prngReg c r)
    ∗ (StableHlo.held (c.tc : Thread nD τ) others (V1 m c) ∗ emp) ∗ carried m c ∗ ∃ Wd, owes (c.tc : Thread nD τ) (0 + owed c 0 0 0) Wd) : sProp 𝕄)
  rw [zero_add, StableHlo.held_sub_split (c.tc : Thread nD τ) arrays_named (V1 m c)]
  unfold rest
  iintro ⟨⟨HA, HR⟩, Hc, Hp, HO⟩
  isplitl [HA]; · iexact HA
  isplitl [Hp]; · iexact Hp
  isplitl [HR]
  · isplitl [HR]; · iexact HR
    iempintro
  isplitl [Hc]; · iexact Hc
  iexact HO

theorem from_region (c : Dev nD) :
    (region m).post c ⊢ (iprop(after m c ∗ ∃ W, owes (c.tc : Thread nD τ) (0 : CellTallies nD τ sig Unit) W) : sProp 𝕄) := by
  show (iprop(StableHlo.held (c.tc : Thread nD τ) (Pipeline.arrRefs (τ := τ) spec0) (left m c) ∗ (∃ r, prngReg c r)
    ∗ (StableHlo.held (c.tc : Thread nD τ) others (left m c) ∗ emp) ∗ closed c ∗ ∃ Wd, owes (c.tc : Thread nD τ) (0 : CellTallies nD τ sig Unit) Wd) : sProp 𝕄) ⊢ _
  unfold after
  rw [StableHlo.held_sub_split (c.tc : Thread nD τ) arrays_named (left m c)]
  iintro ⟨HA, -, ⟨HR, -⟩, Hc, HO⟩
  isplitr [HO]
  · isplitr [Hc]
    · isplitl [HA]; · iexact HA
      iexact HR
    · iexact Hc
  iexact HO

/-! ## The run -/

/-- What the end of the run shows of one device. -/
def Shown (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_v19) = result (given m))
  ∧ s.sem (barCell c) = 0

theorem kept_arg (c : Dev nD) (r : Ref sig .tc) (h : r ≠ main_v19) (h' : r ∉ hostOps0_W) :
    left m c r = m ((c.tc : Thread nD τ).loc r) := ((left_of m c r h).trans (V1_of m c r h')).trans rfl

theorem shown (c : Dev nD) (s' : Phys nD τ sig (Elt F)) :
    iprop(after m c ∗ SI s') ⊢ (|={Set.univ}=> iprop(⌜Shown m c s'.mem⌝ ∗ SI s') : sProp 𝕄) := by
  unfold after StableHlo.held closed
  iintro ⟨⟨Hh, Hb⟩, HSI⟩
  icombine HSI Hb gives %hb
  ihave Hr := (pointsTo_read_all (Pipeline.ucRefs τ sig) (fun b => ((c.tc : Thread nD τ).1, b)) (left m c) s') $$ [Hh HSI]
  · isplitl [Hh] <;> iassumption
  icases Hr with ⟨%h, HSI⟩
  imodintro
  isplitr
  · ipureintro
    have hr : ∀ r : Ref sig .tc, (Proc.devRef .tc r : DevRef τ sig) ∈ Pipeline.ucRefs τ sig → s'.mem.mem ((c.tc : Thread nD τ).loc r) = left m c r :=
      fun r hm => h (Proc.devRef .tc r) hm
    have hu : ∀ r : Ref sig .tc, r.isScoped = false → (Proc.devRef .tc r : DevRef τ sig) ∈ Pipeline.ucRefs τ sig :=
      fun r hs => Finset.mem_filter.mpr ⟨StableHlo.devRef_mem_tcRefs r, by simpa using hs⟩
    exact ⟨⟨(hr main_arg0 (hu _ (by decide))).trans (kept_arg m c _ (by decide) (by decide)),
      (hr main_arg1 (hu _ (by decide))).trans (kept_arg m c _ (by decide) (by decide)),
      (hr main_arg2 (hu _ (by decide))).trans (kept_arg m c _ (by decide) (by decide)),
      (hr main_arg3 (hu _ (by decide))).trans (kept_arg m c _ (by decide) (by decide)),
      (hr main_arg4 (hu _ (by decide))).trans (kept_arg m c _ (by decide) (by decide)),
      (hr main_v19 (hu _ (by decide))).trans (left_out m c)⟩, by simpa using hb⟩
  · iexact HSI

set_option backward.isDefEq.respectTransparency.types false in
theorem run_main : θ_run defs (onTc (τ := τ) (main (F := F))) ⟨m, fun _ => 0, ρ⟩
    (fun r => (∀ c : Dev nD, Shown m c r.2) ∧ r.2.sem = fun _ => 0) :=
  Pipeline.θ_run_regions_kit_dev_sems (pcfgs (F := F)) adm (pdats m) () cellOf_inj EP defs₀ 𝒱₀ L lv m ρ main
    (segs m 𝒱₀ L lv (rest m) () (pdats m) (region m))
    (fun c Q => by
      rewrite [main_chain c, Seg.run_eq_chain,
        show (segs m 𝒱₀ L lv (rest m) () (pdats m) (region m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide)
    (fun c => owed c 0 0 0) (hL := L_of_ne) (G := parkedTalk) (u₀ := talkLaunch) (hu₀ := ghost_launch)
    (T₀ := before m) (Tₙ := after m)
    (hch := fun c => ⟨.rfl, into_region m c, from_region m c⟩)
    (hinit := launched m ρ)
    (QY := Shown m)
    (hfin := shown m)
    (hQ := fun s h hs => ⟨h, sem_eq_zero hs fun c sm hsm => by
      obtain rfl := unscoped_eq sm hsm
      exact (h c).2⟩)

end Cert.KernelIdeal.Talk
-- ==== Proof.Frames.lean ====
module

public import proofs.«01_k».proof.Defs
public import proofs.«01_k».proof.Proof.Gen.Kernel
public import proofs.«01_k».proof.Proof.Gen.ReferenceIdeal.Run
public import proofs.«01_k».proof.Proof.Talk.Run
public import Idealize.ShloMosaic.Lib.Quiescent

@[expose] public section

noncomputable section

/-!
# The frames

Each is the run of all devices with what it computes forgotten; the reference declares no counter.
-/

namespace Cert.Proof

open Idealize.ShloMosaic Idealize.SL.Sem
open Cert.KernelIdeal.Talk (run_main)

theorem frame_ideal : Cert.quiescent_KernelIdeal := fun m ρ _ =>
  (θ_run Cert.KernelIdeal.defs _ _).mono
    (fun _ h => ⟨fun c => ⟨(h.1 c).1.1, (h.1 c).1.2.1, (h.1 c).1.2.2.1, (h.1 c).1.2.2.2.1, (h.1 c).1.2.2.2.2.1⟩, h.2⟩)
    (run_main (F := Ideal) m ρ)

/-! The program read at machine words has the same text. -/

theorem same_body : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
theorem same_defs : Cert.Kernel.defs (F := Bits) = Cert.KernelIdeal.defs (F := Bits) :=
  congrArg (Pipeline.defs Cert.Kernel.pcfgs) same_body
theorem same_main : Cert.Kernel.main (F := Bits) = Cert.KernelIdeal.main (F := Bits) := rfl

theorem frame_words : Cert.quiescent_Kernel := fun m ρ _ => by
  rw [same_defs, same_main]
  exact (θ_run Cert.KernelIdeal.defs _ _).mono
    (fun _ h => ⟨fun c => ⟨(h.1 c).1.1, (h.1 c).1.2.1, (h.1 c).1.2.2.1, (h.1 c).1.2.2.2.1, (h.1 c).1.2.2.2.2.1⟩, h.2⟩)
    (run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Value.Attention.lean ====
module

public import Idealize.ShloMosaic.Lib.Pointwise

@[expose] public section

noncomputable section

/-!
# Attention over the extended reals

One head of softmax attention, on 128 positions of 64 features, and the sum over all heads' features that
the output projection takes. The two programs meet in these functions.
-/

namespace Cert.Value

open Idealize.ShloMosaic

/-- One head's queries, keys or values: position and feature. -/
abbrev HeadRows := Fin 128 → Fin 64 → EReal

/-- The scaled scores of query `i` against every key. -/
def score (q k : HeadRows) (i j : Fin 128) : EReal := (∑ e, q i e * k j e) * Ideal.ofBits .f32 0x3E000000#32

/-- The largest of a row of scores. -/
def peak (s : Fin 128 → EReal) : EReal := Finset.univ.fold max (Ideal.ofBits .f32 0xFF800000#32) s

/-- A row of scores after the softmax. -/
def weight (s : Fin 128 → EReal) (j : Fin 128) : EReal :=
  Ideal.div (Ideal.exp (s j - peak s)) (∑ l, Ideal.exp (s l - peak s))

/-- The attention of one head: the values, weighted. -/
def attend (q k v : HeadRows) (i : Fin 128) (e : Fin 64) : EReal := ∑ j, weight (score q k i) j * v j e

/-- A sum over the 2048 features of all heads, one block of 256 per device. -/
theorem sum_by_device (f : Fin 2048 → EReal) :
    ∑ n, f n = ∑ c : Fin 8, ∑ k : Fin 256, f ⟨256 * c.val + k.val, by omega⟩ := by
  rw [← Fintype.sum_prod_type', ← (finProdFinEquiv (m := 8) (n := 256)).sum_comp]
  exact Finset.sum_congr rfl fun p _ => congrArg f (Fin.ext (Nat.add_comm _ _))

end Cert.Value
-- ==== Proof.Value.Head.lean ====
module

public import proofs.«01_k».proof.Proof.Gen.KernelIdeal.Skeleton
public import proofs.«01_k».proof.Proof.Value.Attention

@[expose] public section

noncomputable section

/-!
# The kernel's blocks, element by element

Each group of vector operations of the kernel body, read at one element: the projected queries, the
four heads of a batch (written by the program in four different groupings, one value each), and the
product of the four heads' context with the output weights.
-/

namespace Cert.KernelIdeal.Value

open Cert.KernelIdeal Cert.KernelIdeal.Gen Cert.Value
open Idealize.ShloMosaic

set_option maxRecDepth 16384

/-- Head `h`'s columns of the projected queries, and the rows of one head's block of keys or values. -/
def headCols (q : FVec Ideal S128x256 .f32) (h : Fin 4) : HeadRows := fun i e => q (ix2 i ⟨64 * h.val + e.val, by omega⟩)
def headRows (k : Vec Ideal S1x128x64 .f32) : HeadRows := fun j e => k (ix3 0 j e)

theorem query0_apply (wq : Vec Ideal S512x256 .f32) (x : Vec Ideal S1x128x512 .f32) (i : Fin 128) (n : Fin 256) :
    k0_pay4 wq x (ix2 i n) = ∑ d : Fin 512, x (ix3 0 i d) * wq (ix2 d n) := by
  pointwise [k0_pay4, k0_pay2]

theorem query1_apply (wq : Vec Ideal S512x256 .f32) (x : Vec Ideal S1x128x512 .f32) (i : Fin 128) (n : Fin 256) :
    k0_pay12 (k0_pay2 wq) x (ix2 i n) = ∑ d : Fin 512, x (ix3 0 i d) * wq (ix2 d n) := by
  pointwise [k0_pay12, k0_pay2]

theorem keep_wo (wo : Vec Ideal S256x512 .f32) : k0_pay3 wo = wo := by
  funext j
  pointwise [k0_pay3]

variable (q : FVec Ideal S128x256 .f32) (k v : Vec Ideal S1x128x64 .f32) (i : Fin 128) (e : Fin 64)
variable (wq : Vec Ideal S512x256 .f32) (x : Vec Ideal S1x128x512 .f32)

/-! ## The first batch's heads -/

theorem head0_apply : k0_pay5 wq x k v (ix2 i e) = attend (headCols (k0_pay4 wq x) 0) (headRows k) (headRows v) i e := by
  unfold k0_pay5
  generalize k0_pay4 wq x = q
  pointwise [attend, weight, peak, score, headCols, headRows]

theorem head1_apply : k0_pay7 (k0_pay6 wq x k) v (ix2 i e) = attend (headCols (k0_pay4 wq x) 1) (headRows k) (headRows v) i e := by
  unfold k0_pay7 k0_pay6
  generalize k0_pay4 wq x = q
  pointwise [attend, weight, peak, score, headCols, headRows]

theorem head2_apply : k0_pay8 q k v (ix2 i e) = attend (headCols q 2) (headRows k) (headRows v) i e := by
  pointwise [k0_pay8, attend, weight, peak, score, headCols, headRows]

/-- A row of four heads side by side. -/
def beside (a : Fin 4 → Fin 64 → EReal) (n : Fin 256) : EReal := a ⟨n.val / 64, by omega⟩ ⟨n.val % 64, by omega⟩

/-- Four blocks joined along the columns, as the joining reads: the block is found by stepping past 64 at a time. -/
theorem steps_eq (a : Fin 4 → Fin 64 → EReal) (l : Fin 256) :
    (if h : l.val < 64 then a 0 ⟨l.val, h⟩
      else if h : l.val - 64 < 64 then a 1 ⟨l.val - 64, h⟩
      else if h : l.val - 64 - 64 < 64 then a 2 ⟨l.val - 64 - 64, h⟩
      else a 3 ⟨l.val - 64 - 64 - 64, by omega⟩) = beside a l := by
  split_ifs <;> exact congrArg₂ a (Fin.ext (by simp; omega)) (Fin.ext (by simp; omega))

/-- The first batch's product with the output weights; its last head is finished here, from its exponentials `w` and
    their sums `t`. -/
theorem project0_apply (wo : FVec Ideal S256x512 .f32) (a b c : FVec Ideal S128x64 .f32) (w : FVec Ideal S128x128 .f32)
    (t : FVec Ideal S128x1 .f32) (n : Fin 512) :
    k0_pay11 wo a b c w t v (ix2 i n)
      = ∑ l : Fin 256, beside ![fun e => a (ix2 i e), fun e => b (ix2 i e), fun e => c (ix2 i e),
          fun e => ∑ j : Fin 128, Ideal.div (w (ix2 i j)) (t (ix2 i 0)) * headRows v j e] l * wo (ix2 l n) := by
  pointwise [k0_pay11]
  refine Finset.sum_congr rfl fun l _ => congrArg (· * wo (ix2 l n)) ?_
  exact steps_eq ![fun e => a (ix2 i e), fun e => b (ix2 i e), fun e => c (ix2 i e),
    fun e => ∑ j : Fin 128, Ideal.div (w (ix2 i j)) (t (ix2 i 0)) * headRows v j e] l

theorem head3_apply : ∑ j : Fin 128, Ideal.div (k0_pay9 q k (ix2 i j)) (k0_pay10 q k (ix2 i 0)) * headRows v j e
    = attend (headCols q 3) (headRows k) (headRows v) i e := by
  pointwise [k0_pay10, k0_pay9, attend, weight, peak, score, headCols, headRows]

/-! ## The second batch's heads -/

theorem head4_apply : k0_pay13 (k0_pay2 wq) x k v (ix2 i e)
    = attend (headCols (k0_pay12 (k0_pay2 wq) x) 0) (headRows k) (headRows v) i e := by
  unfold k0_pay13
  generalize k0_pay12 (k0_pay2 wq) x = q
  pointwise [attend, weight, peak, score, headCols, headRows]

theorem head5_apply : k0_pay15 (k0_pay14 (k0_pay2 wq) x k) v (ix2 i e)
    = attend (headCols (k0_pay12 (k0_pay2 wq) x) 1) (headRows k) (headRows v) i e := by
  unfold k0_pay15 k0_pay14
  generalize k0_pay12 (k0_pay2 wq) x = q
  pointwise [attend, weight, peak, score, headCols, headRows]

theorem head6_apply : k0_pay16 q k v (ix2 i e) = attend (headCols q 2) (headRows k) (headRows v) i e := by
  pointwise [k0_pay16, attend, weight, peak, score, headCols, headRows]

/-- The second batch's rows stand below the first batch's, -/
theorem project1_first (wo : FVec Ideal S256x512 .f32) (p : FVec Ideal S128x512 .f32) (a b c : FVec Ideal S128x64 .f32)
    (w : FVec Ideal S128x128 .f32) (t : FVec Ideal S128x1 .f32) (r : Fin 256) (hr : r.val = i.val) (n : Fin 512) :
    k0_pay19 wo p a b c w t v (ix2 r n) = p (ix2 i n) := by
  pointwise [k0_pay19]
  have h : r.val < 128 := hr ▸ i.isLt
  rw [dif_pos h]
  exact congrArg (fun z => p (ix2 z n)) (Fin.ext hr)

/-- and are its product with the output weights; its last head is finished here, from its scores `w` and their
    largest `t`. -/
theorem project1_apply (wo : FVec Ideal S256x512 .f32) (p : FVec Ideal S128x512 .f32) (a b c : FVec Ideal S128x64 .f32)
    (w : FVec Ideal S128x128 .f32) (t : FVec Ideal S128x1 .f32) (r : Fin 256) (hr : r.val = 128 + i.val) (n : Fin 512) :
    k0_pay19 wo p a b c w t v (ix2 r n)
      = ∑ l : Fin 256, beside ![fun e => a (ix2 i e), fun e => b (ix2 i e), fun e => c (ix2 i e),
          fun e => ∑ j : Fin 128, Ideal.div (Ideal.exp (w (ix2 i j) - t (ix2 i 0)))
            (∑ m : Fin 128, Ideal.exp (w (ix2 i m) - t (ix2 i 0))) * headRows v j e] l * wo (ix2 l n) := by
  pointwise [k0_pay19]
  have h : ¬ r.val < 128 := by omega
  rw [dif_neg h]
  have hi : (⟨r.val - 128, by omega⟩ : Fin 128) = i := Fin.ext (by show r.val - 128 = i.val; omega)
  simp only [hi]
  refine Finset.sum_congr rfl fun l _ => congrArg (· * wo (ix2 l n)) ?_
  exact steps_eq ![fun e => a (ix2 i e), fun e => b (ix2 i e), fun e => c (ix2 i e),
    fun e => ∑ j : Fin 128, Ideal.div (Ideal.exp (w (ix2 i j) - t (ix2 i 0)))
      (∑ m : Fin 128, Ideal.exp (w (ix2 i m) - t (ix2 i 0))) * headRows v j e] l

theorem head7_apply : ∑ j : Fin 128, Ideal.div (Ideal.exp (k0_pay17 q k (ix2 i j) - k0_pay18 q k (ix2 i 0)))
      (∑ m : Fin 128, Ideal.exp (k0_pay17 q k (ix2 i m) - k0_pay18 q k (ix2 i 0))) * headRows v j e
    = attend (headCols q 3) (headRows k) (headRows v) i e := by
  pointwise [k0_pay18, k0_pay17, attend, weight, peak, score, headCols, headRows]

/-! ## The sum over the devices -/

theorem add_first_apply (a : Vec Ideal S32x512 .f32) (b c : Vec Ideal S1x32x512 .f32) (r : Fin 32) (n : Fin 512) :
    k0_pay20 a b c (ix2 r n) = a (ix2 r n) + b (ix3 0 r n) + c (ix3 0 r n) := by
  pointwise [k0_pay20]

theorem add_next_apply (s : FVec Ideal S32x512 .f32) (a b c : Vec Ideal S1x32x512 .f32) (r : Fin 32) (n : Fin 512) :
    k0_pay21 s a b c (ix2 r n) = s (ix2 r n) + a (ix3 0 r n) + b (ix3 0 r n) + c (ix3 0 r n) := by
  pointwise [k0_pay21]

theorem add_last_apply (s : FVec Ideal S32x512 .f32) (a b : Vec Ideal S1x32x512 .f32) (r : Fin 32) (n : Fin 512) :
    k0_pay22 s a b (ix2 r n) = s (ix2 r n) + a (ix3 0 r n) + b (ix3 0 r n) := by
  pointwise [k0_pay22]

theorem batches_apply (y : Vec Ideal S256x512 .f32) (b : Fin 2) (i : Fin 128) (n : Fin 512) :
    k0_pay1 y (ix3 b i n) = y (ix2 ⟨128 * b.val + i.val, by omega⟩ n) := by
  pointwise [k0_pay1]
  exact congrArg (fun z => y (ix2 z n)) (Fin.ext (by show b.val * 128 + i.val = 128 * b.val + i.val; omega))

end Cert.KernelIdeal.Value
-- ==== Proof.Value.Part.lean ====
module

public import proofs.«01_k».proof.Proof.Talk.Contents
public import proofs.«01_k».proof.Proof.Value.Head

@[expose] public section

noncomputable section

/-!
# One device's contribution and their sum, element by element

A device's partial sums are its four heads' context times its rows of the output weights, for either batch
(`part_apply`). The result at an element is the sum of the eight devices' partial sums there, in the order
in which the block's owner adds them, and so in any order (`result_apply`).
-/

namespace Cert.KernelIdeal.Value

open Cert.KernelIdeal Cert.KernelIdeal.Gen Cert.KernelIdeal.Talk Cert.Value
open Idealize.ShloMosaic

set_option maxRecDepth 16384

variable (I : Inputs Ideal)

/-- Head `h`'s queries of batch `b`, and row `s` of the staged keys or values. -/
def queries (b : Fin 2) (h : Fin 4) : HeadRows := fun i e =>
  ∑ d : Fin 512, I.x (ix3 b i d) * I.wq (ix2 d ⟨64 * h.val + e.val, by omega⟩)
def slabK (s : Fin 8) : HeadRows := fun j e => I.k (ix3 s j e)
def slabV (s : Fin 8) : HeadRows := fun j e => I.v (ix3 s j e)

/-- The attention of head `h` in batch `b`. -/
def context (b : Fin 2) (h : Fin 4) : HeadRows :=
  attend (queries I b h) (slabK I ⟨4 * b.val + h.val, by omega⟩) (slabV I ⟨4 * b.val + h.val, by omega⟩)

/-! ## The loads -/

theorem ldX_apply (b : Fin 2) (i : Fin 128) (d : Fin 512) : ldX I b (x_inb b) (ix3 0 i d) = I.x (ix3 b i d) :=
  congrArg I.x (funext fun a => Fin.ext (match a with
    | ⟨0, _⟩ => (ValueKit.rect_emb_unit_val _ _ _ _ 0).trans (Nat.add_zero _)
    | ⟨1, _⟩ => (ValueKit.rect_emb_unit_val _ _ _ _ 1).trans (Nat.zero_add _)
    | ⟨2, _⟩ => (ValueKit.rect_emb_unit_val _ _ _ _ 2).trans (Nat.zero_add _)))

theorem ldK_rows (s : Fin 8) : headRows (ldK I s (h_inb s)) = slabK I s :=
  funext fun j => funext fun e => congrArg I.k (funext fun a => Fin.ext (match a with
    | ⟨0, _⟩ => (ValueKit.rect_emb_unit_val _ _ _ _ 0).trans (Nat.add_zero _)
    | ⟨1, _⟩ => (ValueKit.rect_emb_unit_val _ _ _ _ 1).trans (Nat.zero_add _)
    | ⟨2, _⟩ => (ValueKit.rect_emb_unit_val _ _ _ _ 2).trans (Nat.zero_add _)))

theorem ldV_rows (s : Fin 8) : headRows (ldV I s (h_inb s)) = slabV I s :=
  funext fun j => funext fun e => congrArg I.v (funext fun a => Fin.ext (match a with
    | ⟨0, _⟩ => (ValueKit.rect_emb_unit_val _ _ _ _ 0).trans (Nat.add_zero _)
    | ⟨1, _⟩ => (ValueKit.rect_emb_unit_val _ _ _ _ 1).trans (Nat.zero_add _)
    | ⟨2, _⟩ => (ValueKit.rect_emb_unit_val _ _ _ _ 2).trans (Nat.zero_add _)))

theorem ldWq_eq : ldWq I = I.wq :=
  funext fun j => congrArg I.wq (funext fun a => Fin.ext (match a with
    | ⟨0, _⟩ => (ValueKit.rect_emb_unit_val _ _ _ _ 0).trans (Nat.zero_add _)
    | ⟨1, _⟩ => (ValueKit.rect_emb_unit_val _ _ _ _ 1).trans (Nat.zero_add _)))

theorem ldWo_eq : ldWo I = I.wo :=
  funext fun j => congrArg I.wo (funext fun a => Fin.ext (match a with
    | ⟨0, _⟩ => (ValueKit.rect_emb_unit_val _ _ _ _ 0).trans (Nat.zero_add _)
    | ⟨1, _⟩ => (ValueKit.rect_emb_unit_val _ _ _ _ 1).trans (Nat.zero_add _)))

/-! ## The partial sums -/

theorem query_cols0 (h : Fin 4) : headCols (k0_pay4 (ldWq I) (ldX I 0 (x_inb 0))) h = queries I 0 h :=
  funext fun i => funext fun e => (query0_apply _ _ _ _).trans (Finset.sum_congr rfl fun d _ =>
    congrArg₂ (· * ·) (ldX_apply I 0 i d) (congrFun (ldWq_eq I) _))

theorem query_cols1 (h : Fin 4) : headCols (k0_pay12 (k0_pay2 (ldWq I)) (ldX I 1 (x_inb 1))) h = queries I 1 h :=
  funext fun i => funext fun e => (query1_apply _ _ _ _).trans (Finset.sum_congr rfl fun d _ =>
    congrArg₂ (· * ·) (ldX_apply I 1 i d) (congrFun (ldWq_eq I) _))

/-- Four rows side by side are the joined row of a family that they list. -/
theorem beside_family (a : Fin 4 → Fin 64 → EReal) {a0 a1 a2 a3 : Fin 64 → EReal} (h0 : ∀ e, a0 e = a 0 e)
    (h1 : ∀ e, a1 e = a 1 e) (h2 : ∀ e, a2 e = a 2 e) (h3 : ∀ e, a3 e = a 3 e) : beside ![a0, a1, a2, a3] = beside a := by
  obtain rfl := funext h0; obtain rfl := funext h1; obtain rfl := funext h2; obtain rfl := funext h3
  congr 1
  funext h
  match h with
  | 0 => rfl
  | 1 => rfl
  | 2 => rfl
  | 3 => rfl

theorem part0_apply (i : Fin 128) (n : Fin 512) :
    part0 I (ix2 i n) = ∑ l : Fin 256, beside (fun h => context I 0 h i) l * I.wo (ix2 l n) := by
  unfold part0
  rw [project0_apply, keep_wo, ldWo_eq]
  refine Finset.sum_congr rfl fun l _ => congrArg (· * I.wo (ix2 l n)) (congrFun (beside_family _ (fun e => ?_) (fun e => ?_) (fun e => ?_) fun e => ?_) l)
  · rw [head0_apply, query_cols0, ldK_rows, ldV_rows]; rfl
  · rw [head1_apply, query_cols0, ldK_rows, ldV_rows]; rfl
  · rw [head2_apply, query, query_cols0, ldK_rows, ldV_rows]; rfl
  · rw [head3_apply, query, query_cols0, ldK_rows, ldV_rows]; rfl

theorem part_apply (b : Fin 2) (i : Fin 128) (n : Fin 512) (r : Fin 256) (hr : r.val = 128 * b.val + i.val) :
    part I (ix2 r n) = ∑ l : Fin 256, beside (fun h => context I b h i) l * I.wo (ix2 l n) := by
  unfold part
  match b with
  | 0 =>
    rw [project1_first _ i _ _ _ _ _ _ _ r (by simpa using hr), part0_apply]
  | 1 =>
    rw [project1_apply _ i _ _ _ _ _ _ _ r (by simpa using hr), keep_wo, ldWo_eq]
    refine Finset.sum_congr rfl fun l _ => congrArg (· * I.wo (ix2 l n)) (congrFun (beside_family _ (fun e => ?_) (fun e => ?_) (fun e => ?_) fun e => ?_) l)
    · rw [head4_apply, query_cols1, ldK_rows, ldV_rows]; rfl
    · rw [head5_apply, query_cols1, ldK_rows, ldV_rows]; rfl
    · rw [head6_apply, query, query_cols1, ldK_rows, ldV_rows]; rfl
    · rw [head7_apply, query, query_cols1, ldK_rows, ldV_rows]; rfl

/-! ## The sum over the devices -/

variable (inp : Dev nD → Inputs Ideal)

theorem ownRows_apply (c : Dev nD) (r : Fin 32) (n : Fin 512) : ownRows inp c (ix2 r n) = part (inp c) (rowOf c r n) :=
  congrArg (part (inp c)) (blk_emb c r n)

theorem slotRows_apply (c : Dev nD) (j : Fin 8) (r : Fin 32) (n : Fin 512) :
    slotRows inp c j (ix3 0 r n) = part (inp (back c j)) (rowOf c r n) := by
  have e : (slotR j).emb (ix3 0 r n) = ix3 j r n := by rw [ix3_eq_valueIdx, ix3_eq_valueIdx]; exact slot_emb j r n
  have h : slotRows inp c j (ix3 0 r n) = landed inp c (ix3 j r n) := congrArg (landed inp c) e
  rw [h]
  unfold landed
  rfl

/-- Going back from `c` by 0 to 7 places visits every device once. -/
theorem sum_back (c : Dev nD) (f : Dev nD → EReal) : ∑ j : Fin 8, f (back c j) = ∑ d, f d :=
  Fintype.sum_bijective (back c) (by revert c; decide) _ _ fun _ => rfl

theorem total_apply (c : Dev nD) (r : Fin 32) (n : Fin 512) :
    total inp c (ix2 r n) = ∑ d : Dev nD, part (inp d) (rowOf c r n) := by
  unfold total
  rw [add_last_apply, add_next_apply, add_first_apply, ownRows_apply]
  simp only [slotRows_apply]
  rw [← sum_back c fun d => part (inp d) (rowOf c r n), Fin.sum_univ_eight,
    show back c 0 = c by revert c; decide]

theorem result_apply (b : Fin 2) (i : Fin 128) (n : Fin 512) :
    result inp (ix3 b i n) = ∑ d : Dev nD, ∑ l : Fin 256, beside (fun h => context (inp d) b h i) l * (inp d).wo (ix2 l n) := by
  have e : result inp (ix3 b i n) = gathered inp (ix2 ⟨128 * b.val + i.val, by omega⟩ n) :=
    (batches_apply _ b i n).trans (congrArg (gathered inp) (funext fun a => Fin.ext (match a with
      | ⟨0, _⟩ => (ValueKit.rect_emb_unit_val _ _ _ _ 0).trans (Nat.zero_add _)
      | ⟨1, _⟩ => (ValueKit.rect_emb_unit_val _ _ _ _ 1).trans (Nat.zero_add _))))
  have hr : (ix2 ⟨128 * b.val + i.val, by omega⟩ n : S256x512.Idx)
      = rowOf ⟨(128 * b.val + i.val) / 32, by show _ < 8; omega⟩ ⟨(128 * b.val + i.val) % 32, by omega⟩ n :=
    congrArg (fun z => (ix2 z n : S256x512.Idx)) (Fin.ext (Nat.div_add_mod _ 32).symm)
  rw [e, hr, gathered_row, ← ix2_eq_valueIdx, total_apply, ← hr]
  exact Finset.sum_congr rfl fun d _ => part_apply (inp d) b i n _ rfl

end Cert.KernelIdeal.Value
-- ==== Proof.Value.Host.lean ====
module

public import proofs.«01_k».proof.Proof.Gen.KernelIdeal.Regions
public import Idealize.ShloMosaic.Lib.Pointwise
public import Idealize.ShloMosaic.Lib.StableHlo.RunRead
public import Idealize.ShloMosaic.Lib.DynamicIndex
public import Idealize.ShloMosaic.Lib.Tactic.CleanTypes

@[expose] public section

noncomputable section

/-!
# The keys and values that a device's kernel is given

Before the kernel, device `c` cuts its four heads, the heads `4 * c` to `4 * c + 3`, out of the keys and out of
the values, and lays them out with row `4 * b + h` for head `h` of batch `b`.
-/

namespace Cert.KernelIdeal.Value

open Cert.KernelIdeal Cert.KernelIdeal.Gen
open Idealize.ShloMosaic Idealize.ShloMosaic.StableHlo
open Idealize.ShloMosaic.TcCoe

set_option maxRecDepth 16384

variable (m : (ℓ : Loc nD τ sig) → Buf (Elt Ideal) ℓ) (c : Dev nD)

/-- Four heads from `4 * c` on are there. -/
theorem heads_fit : S2x128x32x64.Slices ![0, 0, 4 * c.val, 0] S2x128x4x64 := by revert c; decide

/-- A device's first head as the program computes it from the device's number, with the wrap of a negative number. -/
theorem first_head :
    (Scalar.select (IntOp.cmpi .slt (IntOp.muli (IntOp.remui .host (IntOp.divui .host (Dev.word c) 1#32) 8#32) 4#32) 0#32)
      (IntOp.addi (IntOp.muli (IntOp.remui .host (IntOp.divui .host (Dev.word c) 1#32) 8#32) 4#32) 32#32)
      (IntOp.muli (IntOp.remui .host (IntOp.divui .host (Dev.word c) 1#32) 8#32) 4#32) : BitVec 32).toInt = ((4 * c.val : ℕ) : ℤ) := by
  revert c; decide +kernel

/-- Row `s` of the staged keys is head `4 * c + s % 4` of batch `s / 4`, -/
theorem keys_apply (s : Fin 8) (j : Fin 128) (e : Fin 64) :
    (V1 m c main_v16 : S8x128x64.Idx → EReal) (ix3 s j e)
      = (m (c.tc.loc main_arg2) : S2x128x32x64.Idx → EReal)
          (ix4 ⟨s.val / 4, by omega⟩ j ⟨4 * c.val + s.val % 4, by have : c.val < 8 := c.isLt; omega⟩ e) := by
  after_reads_simp
  clean_types
  rw [Host.dynamicSlice_eq_extractStridedSlice _ _ _ ![0, 0, 4 * c.val, 0] _ (heads_fit c)]
  · pointwise
  · intro a
    match a with
    | ⟨0, _⟩ =>
      change ((upto (hostOps0 c) (V0 m c) 16 (Proc.tc.devRef main_c_4) : S_.Idx → BitVec 32) (Shape.Idx.first h_S_)).toInt = 0
      after_reads_simp
      rfl
    | ⟨1, _⟩ =>
      change ((upto (hostOps0 c) (V0 m c) 16 (Proc.tc.devRef main_c_5) : S_.Idx → BitVec 32) (Shape.Idx.first h_S_)).toInt = 0
      after_reads_simp
      rfl
    | ⟨2, _⟩ =>
      change ((upto (hostOps0 c) (V0 m c) 16 (Proc.tc.devRef main_v8) : S_.Idx → BitVec 32) (Shape.Idx.first h_S_)).toInt
        = ((4 * c.val : ℕ) : ℤ)
      after_reads_simp
      exact first_head c
    | ⟨3, _⟩ =>
      change ((upto (hostOps0 c) (V0 m c) 16 (Proc.tc.devRef main_c_6) : S_.Idx → BitVec 32) (Shape.Idx.first h_S_)).toInt = 0
      after_reads_simp
      rfl

/-- and so are the staged values. -/
theorem values_apply (s : Fin 8) (j : Fin 128) (e : Fin 64) :
    (V1 m c main_v18 : S8x128x64.Idx → EReal) (ix3 s j e)
      = (m (c.tc.loc main_arg3) : S2x128x32x64.Idx → EReal)
          (ix4 ⟨s.val / 4, by omega⟩ j ⟨4 * c.val + s.val % 4, by have : c.val < 8 := c.isLt; omega⟩ e) := by
  after_reads_simp
  clean_types
  rw [Host.dynamicSlice_eq_extractStridedSlice _ _ _ ![0, 0, 4 * c.val, 0] _ (heads_fit c)]
  · pointwise
  · intro a
    match a with
    | ⟨0, _⟩ =>
      change ((upto (hostOps0 c) (V0 m c) 27 (Proc.tc.devRef main_c_10) : S_.Idx → BitVec 32) (Shape.Idx.first h_S_)).toInt = 0
      after_reads_simp
      rfl
    | ⟨1, _⟩ =>
      change ((upto (hostOps0 c) (V0 m c) 27 (Proc.tc.devRef main_c_11) : S_.Idx → BitVec 32) (Shape.Idx.first h_S_)).toInt = 0
      after_reads_simp
      rfl
    | ⟨2, _⟩ =>
      change ((upto (hostOps0 c) (V0 m c) 27 (Proc.tc.devRef main_v13) : S_.Idx → BitVec 32) (Shape.Idx.first h_S_)).toInt
        = ((4 * c.val : ℕ) : ℤ)
      after_reads_simp
      exact first_head c
    | ⟨3, _⟩ =>
      change ((upto (hostOps0 c) (V0 m c) 27 (Proc.tc.devRef main_c_12) : S_.Idx → BitVec 32) (Shape.Idx.first h_S_)).toInt = 0
      after_reads_simp
      rfl

end Cert.KernelIdeal.Value
-- ==== Proof.Value.Reference.lean ====
module

public import proofs.«01_k».proof.Proof.Gen.ReferenceIdeal.Run
public import proofs.«01_k».proof.Proof.Value.Attention
public import Idealize.ShloMosaic.Lib.Tactic.CleanTypes

@[expose] public section

noncomputable section

/-!
# The reference's result, element by element

The reference masks positions more than 128 apart and keeps a row that has some position left. There are
128 positions, so every pair is near enough (`near`) and every row is kept (`kept`): both selections
choose their first branch. What is left is the attention of each of the 32 heads, and the product of
all heads' context with the output weights (`result_apply`).
-/

namespace Cert.ReferenceIdeal.Reading

open Cert.ReferenceIdeal Cert.Value
open Idealize.ShloMosaic

set_option maxRecDepth 16384

/-- No two of the 128 positions are more than 128 apart. -/
theorem near : ∀ i j : Fin 128,
    IntOp.cmpi CmpIPredicate.sle (IntOp.absi (IntOp.subi (BitVec.ofNat 32 i.val) (BitVec.ofNat 32 j.val))) 128#32 = 1#1 := by
  decide +kernel

/-- A row with every position left is kept. -/
theorem kept : Finset.fold IntOp.ori (0#1) (fun _ : Fin 128 => 1#1) Finset.univ = 1#1 := by decide +kernel

variable (x : (⟨3, ![2, 128, 512]⟩ : Shape).Idx → EReal) (wq : (⟨2, ![512, 2048]⟩ : Shape).Idx → EReal)
variable (k v : (⟨4, ![2, 128, 32, 64]⟩ : Shape).Idx → EReal)

/-- Head `h`'s queries of batch `b`; its rows of the keys or values. -/
def queries (b : Fin 2) (h : Fin 32) : HeadRows := fun i e => ∑ d : Fin 512, x (ix3 b i d) * wq (ix2 d ⟨h.val * 64 + e.val, by omega⟩)
def rows (b : Fin 2) (h : Fin 32) : HeadRows := fun j e => k (ix4 b j h e)

/-- The attention of head `h` in batch `b`. -/
def context (b : Fin 2) (h : Fin 32) : HeadRows := attend (queries x wq b h) (rows k b h) (rows v b h)

theorem result_apply (m : (ℓ : Loc nD τ sig) → Buf (Elt Ideal) ℓ) (c : Dev nD) (b : Fin 2) (i : Fin 128) (n : Fin 512) :
    Value.res_main_v34 m c (ix3 b i n)
      = ∑ l : Fin 2048, context (m (c.tc.loc main_arg0)) (m (c.tc.loc main_arg1)) (m (c.tc.loc main_arg2)) (m (c.tc.loc main_arg3))
          b ⟨l.val / 64, by omega⟩ i ⟨l.val % 64, by omega⟩ * m (c.tc.loc main_arg4) (ix2 l n) := by
  unfold Value.res_main_v34
  clean_types
  pointwise
  simp only [near, kept, ValueIdx.select_one]
  refine Finset.sum_congr rfl fun l _ => congrArg (· * m (c.tc.loc main_arg4) (ix2 l n)) ?_
  exact Finset.sum_congr rfl fun j _ => mul_comm _ _

end Cert.ReferenceIdeal.Reading
-- ==== Proof.Value.Equation.lean ====
module

public import proofs.«01_k».proof.Proof.Value.Part
public import proofs.«01_k».proof.Proof.Value.Host
public import proofs.«01_k».proof.Proof.Value.Reference
public import proofs.«01_k».proof.Proof.Talk.Region
public import Idealize.ShloMosaic.Lib.LayoutAt

@[expose] public section

noncomputable section

/-!
# The kernel's result is the reference's

Device `d` holds heads `4 * d` to `4 * d + 3`, so its head `h` is head `4 * d + h` of the reference
(`same_context`), and its 256 features are the features from `256 * d` on. The reference's sum over 2048 features,
cut in eight blocks of 256, is the sum of what the devices contribute (`same_result`).
-/

namespace Cert.Value

open Idealize.ShloMosaic
open Cert.KernelIdeal.Talk (Inputs)

/-- Each device's staged arrays are its heads' share of the whole arrays. -/
structure Shares (inp : Dev Cert.KernelIdeal.nD → Inputs Ideal) (x : (⟨3, ![2, 128, 512]⟩ : Shape).Idx → EReal)
    (wq : (⟨2, ![512, 2048]⟩ : Shape).Idx → EReal) (k v : (⟨4, ![2, 128, 32, 64]⟩ : Shape).Idx → EReal)
    (wo : (⟨2, ![2048, 512]⟩ : Shape).Idx → EReal) : Prop where
  tokens : ∀ d b i n, (inp d).x (ix3 b i n) = x (ix3 b i n)
  wq_cols : ∀ (d : Fin 8) (i : Fin 512) (l : Fin 256), (inp d).wq (ix2 i l) = wq (ix2 i ⟨256 * d.val + l.val, by omega⟩)
  keys : ∀ (d s : Fin 8) (j : Fin 128) (e : Fin 64),
    (inp d).k (ix3 s j e) = k (ix4 ⟨s.val / 4, by omega⟩ j ⟨4 * d.val + s.val % 4, by omega⟩ e)
  values : ∀ (d s : Fin 8) (j : Fin 128) (e : Fin 64),
    (inp d).v (ix3 s j e) = v (ix4 ⟨s.val / 4, by omega⟩ j ⟨4 * d.val + s.val % 4, by omega⟩ e)
  wo_rows : ∀ (d : Fin 8) (l : Fin 256) (n : Fin 512), (inp d).wo (ix2 l n) = wo (ix2 ⟨256 * d.val + l.val, by omega⟩ n)

variable {inp : Dev Cert.KernelIdeal.nD → Inputs Ideal} {x : (⟨3, ![2, 128, 512]⟩ : Shape).Idx → EReal}
  {wq : (⟨2, ![512, 2048]⟩ : Shape).Idx → EReal} {k v : (⟨4, ![2, 128, 32, 64]⟩ : Shape).Idx → EReal}
  {wo : (⟨2, ![2048, 512]⟩ : Shape).Idx → EReal}

theorem same_context (H : Shares inp x wq k v wo) (d : Fin 8) (b : Fin 2) (h : Fin 4) :
    Cert.KernelIdeal.Value.context (inp d) b h
      = Cert.ReferenceIdeal.Reading.context x wq k v b ⟨4 * d.val + h.val, by omega⟩ := by
  have hb : (4 * b.val + h.val) / 4 = b.val := by omega
  have hh : (4 * b.val + h.val) % 4 = h.val := by omega
  have hq : Cert.KernelIdeal.Value.queries (inp d) b h
      = Cert.ReferenceIdeal.Reading.queries x wq b ⟨4 * d.val + h.val, by omega⟩ :=
    funext fun i => funext fun e => Finset.sum_congr rfl fun n _ => by
      rw [H.tokens, H.wq_cols]
      exact congrArg (fun z => x (ix3 b i n) * wq (ix2 n z)) (Fin.ext (by
        show 256 * d.val + (64 * h.val + e.val) = (4 * d.val + h.val) * 64 + e.val
        omega))
  have hk : Cert.KernelIdeal.Value.slabK (inp d) ⟨4 * b.val + h.val, by omega⟩
      = Cert.ReferenceIdeal.Reading.rows k b ⟨4 * d.val + h.val, by omega⟩ :=
    funext fun j => funext fun e => (H.keys d _ j e).trans (congrArg₂ (fun y z => k (ix4 y j z e))
      (Fin.ext hb) (Fin.ext (congrArg (4 * d.val + ·) hh)))
  have hv : Cert.KernelIdeal.Value.slabV (inp d) ⟨4 * b.val + h.val, by omega⟩
      = Cert.ReferenceIdeal.Reading.rows v b ⟨4 * d.val + h.val, by omega⟩ :=
    funext fun j => funext fun e => (H.values d _ j e).trans (congrArg₂ (fun y z => v (ix4 y j z e))
      (Fin.ext hb) (Fin.ext (congrArg (4 * d.val + ·) hh)))
  unfold Cert.KernelIdeal.Value.context Cert.ReferenceIdeal.Reading.context
  rw [hq, hk, hv]

theorem same_result (H : Shares inp x wq k v wo) (b : Fin 2) (i : Fin 128) (n : Fin 512) :
    Cert.KernelIdeal.Talk.result inp (ix3 b i n)
      = ∑ l : Fin 2048, Cert.ReferenceIdeal.Reading.context x wq k v b ⟨l.val / 64, by omega⟩ i ⟨l.val % 64, by omega⟩
          * wo (ix2 l n) := by
  rw [Cert.KernelIdeal.Value.result_apply, sum_by_device]
  refine Finset.sum_congr rfl fun d _ => Finset.sum_congr rfl fun l _ => ?_
  rw [H.wo_rows d l n]
  refine congrArg (· * wo _) ?_
  show Cert.KernelIdeal.Value.context (inp d) b ⟨l.val / 64, by omega⟩ i ⟨l.val % 64, by omega⟩ = _
  rw [same_context H]
  have hd : d.val < 8 := d.isLt
  exact congrArg₂ (fun y z => Cert.ReferenceIdeal.Reading.context x wq k v b y i z)
    (Fin.ext (by show 4 * d.val + l.val / 64 = (256 * d.val + l.val) / 64; omega))
    (Fin.ext (by show l.val % 64 = (256 * d.val + l.val) % 64; omega))

open Cert.KernelIdeal Cert.KernelIdeal.Gen Cert.KernelIdeal.Talk in
/-- What the devices are given, when each starts from its blocks of the whole arrays. -/
theorem given_shares (m : (ℓ : Loc nD τ sig) → Buf (Elt Ideal) ℓ) (x : (⟨3, ![2, 128, 512]⟩ : Shape).Idx → EReal)
    (wq : (⟨2, ![512, 2048]⟩ : Shape).Idx → EReal) (k v : (⟨4, ![2, 128, 32, 64]⟩ : Shape).Idx → EReal)
    (wo : (⟨2, ![2048, 512]⟩ : Shape).Idx → EReal)
    (h : ∀ c : Dev nD, m (c.tc.loc main_arg0) = x
      ∧ m (c.tc.loc main_arg1) = Layout.block ⟨2, ![512, 256]⟩ ⟨2, ![512, 2048]⟩ 1 8 c wq
      ∧ m (c.tc.loc main_arg2) = k ∧ m (c.tc.loc main_arg3) = v
      ∧ m (c.tc.loc main_arg4) = Layout.block ⟨2, ![256, 512]⟩ ⟨2, ![2048, 512]⟩ 0 8 c wo) :
    Shares (given m) x wq k v wo where
  tokens d b i n := congrFun ((V1_of m d main_arg0 (by decide)).trans (h d).1) _
  wq_cols d i l := by
    refine (congrFun ((V1_of m d main_arg1 (by decide)).trans (h d).2.1) _).trans ?_
    shard_norm
    shard_ext
  keys d s j e := (Cert.KernelIdeal.Value.keys_apply m d s j e).trans (congrFun (h d).2.2.1 _)
  values d s j e := (Cert.KernelIdeal.Value.values_apply m d s j e).trans (congrFun (h d).2.2.2.1 _)
  wo_rows d l n := by
    refine (congrFun ((V1_of m d main_arg4 (by decide)).trans (h d).2.2.2.2) _).trans ?_
    shard_norm
    shard_ext

end Cert.Value
-- ==== Proof.Algebraic.lean ====
module

public import proofs.«01_k».proof.Proof.Frames
public import proofs.«01_k».proof.Proof.Value.Equation

@[expose] public section

noncomputable section

/-!
# The value

Every device ends with the reference's whole result.
-/

namespace Cert.Proof

open Idealize.ShloMosaic Idealize.SL.Sem
open Cert.KernelIdeal.Talk (run_main given result)

/-- The kernel's result, from the devices' blocks of the reference's arguments, is the reference's. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (H : Cert.Value.Shares (given m) (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2))
      (m' ((0 : Dev Cert.ReferenceIdeal.nD).tc.loc Cert.ReferenceIdeal.main_arg3))
      (m' ((0 : Dev Cert.ReferenceIdeal.nD).tc.loc Cert.ReferenceIdeal.main_arg4))) :
    (result (given m) : (⟨3, ![2, 128, 512]⟩ : Shape).Idx → EReal) = Cert.ReferenceIdeal.Value.res_main_v34 m' 0 := by
  funext y
  obtain ⟨b, i, n, rfl⟩ : ∃ (b : Fin 2) (i : Fin 128) (n : Fin 512), y = ix3 b i n := ⟨y 0, y 1, y 2, eq_ix3 y⟩
  exact (Cert.Value.same_result H b i n).trans (Cert.ReferenceIdeal.Reading.result_apply m' 0 b i n).symm

theorem algebraic : Cert.algebraic_KernelIdeal_ReferenceIdeal := fun m g m' g' _ h => by
  have e := value_eq m m' (Cert.Value.given_shares m _ _ _ _ _ h)
  refine ⟨Cert.ReferenceIdeal.Value.res_main_v34 m' 0, ?_, ?_⟩
  · exact (θ_run Cert.KernelIdeal.defs _ _).mono
      (fun _ r c => ⟨(r.1 c).1.2.2.2.2.2.trans e, (r.1 c).1.1, (r.1 c).1.2.1, (r.1 c).1.2.2.1, (r.1 c).1.2.2.2.1, (r.1 c).1.2.2.2.2.1⟩)
      (run_main (F := Ideal) m g)
  · exact (θ_run Cert.ReferenceIdeal.defs _ _).mono (fun _ r => r 0) (Cert.ReferenceIdeal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_words, frame_ideal, frame_reference, trivial, algebraic⟩

end Cert.Proof

end
